-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S4x256x256 : Shape := ⟨3, ![4, 256, 256]⟩
abbrev S5 : Shape := ⟨1, ![5]⟩
abbrev S4 : Shape := ⟨1, ![4]⟩
abbrev S1 : Shape := ⟨1, ![1]⟩
abbrev S_ : Shape := ⟨0, ![]⟩
abbrev S512x256 : Shape := ⟨2, ![512, 256]⟩
abbrev S256x512 : Shape := ⟨2, ![256, 512]⟩
abbrev S256x256 : Shape := ⟨2, ![256, 256]⟩
abbrev S1x256x256 : Shape := ⟨3, ![1, 256, 256]⟩

abbrev nBuf : Space → Nat
  | .hbm => 3
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .bf16⟩
  | .local _ .vmem, ⟨0, _⟩ => ⟨S1024x512, .f32⟩
  | .local _ .vmem, ⟨1, _⟩ => ⟨S512x1024, .f32⟩
  | .local _ .vmem, ⟨2, _⟩ => ⟨S1024x512, .bf16⟩
  | .local _ .vmem, ⟨3, _⟩ => ⟨S4x256x256, .bf16⟩
  | .local _ .vmem, ⟨4, _⟩ => ⟨S4x256x256, .bf16⟩
  | .local _ .vmem, ⟨5, _⟩ => ⟨S4x256x256, .bf16⟩
  | .local _ .vmem, ⟨6, _⟩ => ⟨S4x256x256, .bf16⟩
  | .local _ .vmem, ⟨7, _⟩ => ⟨S4x256x256, .bf16⟩
  | .local _ .vmem, ⟨8, _⟩ => ⟨S4x256x256, .bf16⟩
  | .local _ .vmem, ⟨9, _⟩ => ⟨S4x256x256, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v44 : BitVec 32 := Scalar.muli v24 c1_i32_30
  let v45 : BitVec 32 := Scalar.addi c0_i32_31 v44
  v45.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v46 : BitVec 32 := Scalar.muli v13 c1_i32_33
  let v47 : BitVec 32 := Scalar.addi c0_i32_34 v46
  v47.toNat
def k0_off1 (d0 : Dev nD) (c2_i32_47 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c2_i32_47
  let c4_i32_48 : BitVec 32 := 4#32
  let c0_i32_49 : BitVec 32 := 0#32
  let v62 : BitVec 1 := Scalar.cmpi .eq c4_i32_48 c0_i32_49
  let c1_i32_50 : BitVec 32 := 1#32
  let v63 : BitVec 32 := Scalar.select v62 c1_i32_50 c4_i32_48
  let v64 : BitVec 32 := Scalar.remsi v61 v63
  let c0_i32_52 : BitVec 32 := 0#32
  let v66 : BitVec 1 := Scalar.cmpi .slt v64 c0_i32_52
  let c0_i32_53 : BitVec 32 := 0#32
  let v67 : BitVec 1 := Scalar.cmpi .slt v63 c0_i32_53
  let v68 : BitVec 1 := Scalar.xori v66 v67
  let c0_i32_51 : BitVec 32 := 0#32
  let v65 : BitVec 1 := Scalar.cmpi .ne v64 c0_i32_51
  let v69 : BitVec 1 := Scalar.andi v68 v65
  let v70 : BitVec 32 := Scalar.addi v64 v63
  let v71 : BitVec 32 := Scalar.select v69 v70 v64
  let c256_i32_54 : BitVec 32 := 256#32
  let v72 : BitVec 32 := Scalar.muli v71 c256_i32_54
  let v73 : Index := Scalar.indexCast v72
  let c0_55 : Index := 0#32
  ![v73.toNat, 0]
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_63 : BitVec 32 := 1#32
  let v80 : BitVec 32 := Scalar.muli v24 c1_i32_63
  let v81 : BitVec 32 := Scalar.addi c0_i32_64 v80
  v81.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_79 : BitVec 32 := 1#32
  let v98 : BitVec 32 := Scalar.muli v13 c1_i32_79
  let v99 : BitVec 32 := Scalar.addi c0_i32_80 v98
  v99.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_85 : BitVec 32 := 256#32
  let v108 : BitVec 32 := Scalar.muli v24 c256_i32_85
  let v109 : Index := Scalar.indexCast v108
  let c0_86 : Index := 0#32
  ![v109.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_88 : BitVec 32 := 256#32
  let v112 : BitVec 32 := Scalar.muli v2 c256_i32_88
  let v113 : Index := Scalar.indexCast v112
  let c0_89 : Index := 0#32
  ![v113.toNat, 0]
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v141 : BitVec 32 := Scalar.muli v24 c1_i32_113
  let v142 : BitVec 32 := Scalar.addi c0_i32_114 v141
  v142.toNat
def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_129 : BitVec 32 := 1#32
  let v159 : BitVec 32 := Scalar.muli v13 c1_i32_129
  let v160 : BitVec 32 := Scalar.addi c0_i32_130 v159
  v160.toNat
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_163 : BitVec 32 := 1#32
  let v202 : BitVec 32 := Scalar.muli v24 c1_i32_163
  let v203 : BitVec 32 := Scalar.addi c0_i32_164 v202
  v203.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_179 : BitVec 32 := 1#32
  let v220 : BitVec 32 := Scalar.muli v13 c1_i32_179
  let v221 : BitVec 32 := Scalar.addi c0_i32_180 v220
  v221.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_213 : BitVec 32 := 1#32
  let v263 : BitVec 32 := Scalar.muli v24 c1_i32_213
  let v264 : BitVec 32 := Scalar.addi c0_i32_214 v263
  v264.toNat
def k0_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_229 : BitVec 32 := 1#32
  let v281 : BitVec 32 := Scalar.muli v13 c1_i32_229
  let v282 : BitVec 32 := Scalar.addi c0_i32_230 v281
  v282.toNat
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_261 : BitVec 32 := 1#32
  let v315 : BitVec 32 := Scalar.muli v24 c1_i32_261
  let v316 : BitVec 32 := Scalar.addi c0_i32_262 v315
  v316.toNat
def k0_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_287 : BitVec 32 := 1#32
  let v341 : BitVec 32 := Scalar.muli v24 c1_i32_287
  let v342 : BitVec 32 := Scalar.addi c0_i32_288 v341
  v342.toNat
def k0_dev13 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_313 : BitVec 32 := 1#32
  let v367 : BitVec 32 := Scalar.muli v24 c1_i32_313
  let v368 : BitVec 32 := Scalar.addi c0_i32_314 v367
  v368.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_339 : BitVec 32 := 1#32
  let v393 : BitVec 32 := Scalar.muli v24 c1_i32_339
  let v394 : BitVec 32 := Scalar.addi c0_i32_340 v393
  v394.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_375 : BitVec 32 := 256#32
  let v433 : BitVec 32 := Scalar.muli v2 c256_i32_375
  let c0_i32_378 : BitVec 32 := 0#32
  ![v433.toNat, 0]
def k0_dev15 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_385 : BitVec 32 := 1#32
  let v440 : BitVec 32 := Scalar.muli v13 c1_i32_385
  let v441 : BitVec 32 := Scalar.addi c0_i32_386 v440
  v441.toNat
def k0_dev16 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_394 : BitVec 32 := 1#32
  let v450 : BitVec 32 := Scalar.muli v24 c1_i32_394
  let v451 : BitVec 32 := Scalar.addi c0_i32_395 v450
  v451.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_429 : BitVec 32 := 256#32
  let v489 : BitVec 32 := Scalar.muli v2 c256_i32_429
  let c256_i32_432 : BitVec 32 := 256#32
  ![v489.toNat, 256]
def k0_dev17 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v496 : BitVec 32 := Scalar.muli v13 c1_i32_439
  let v497 : BitVec 32 := Scalar.addi c0_i32_440 v496
  v497.toNat
def k0_dev18 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_448 : BitVec 32 := 1#32
  let v506 : BitVec 32 := Scalar.muli v24 c1_i32_448
  let v507 : BitVec 32 := Scalar.addi c0_i32_449 v506
  v507.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_483 : BitVec 32 := 256#32
  let v545 : BitVec 32 := Scalar.muli v2 c256_i32_483
  let c512_i32_486 : BitVec 32 := 512#32
  ![v545.toNat, 512]
def k0_dev19 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_493 : BitVec 32 := 1#32
  let v552 : BitVec 32 := Scalar.muli v13 c1_i32_493
  let v553 : BitVec 32 := Scalar.addi c0_i32_494 v552
  v553.toNat
def k0_dev20 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_502 : BitVec 32 := 1#32
  let v562 : BitVec 32 := Scalar.muli v24 c1_i32_502
  let v563 : BitVec 32 := Scalar.addi c0_i32_503 v562
  v563.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_537 : BitVec 32 := 256#32
  let v601 : BitVec 32 := Scalar.muli v2 c256_i32_537
  let c768_i32_540 : BitVec 32 := 768#32
  ![v601.toNat, 768]
def k0_dev21 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_547 : BitVec 32 := 1#32
  let v608 : BitVec 32 := Scalar.muli v13 c1_i32_547
  let v609 : BitVec 32 := Scalar.addi c0_i32_548 v608
  v609.toNat
def k0_dev22 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_556 : BitVec 32 := 1#32
  let v618 : BitVec 32 := Scalar.muli v24 c1_i32_556
  let v619 : BitVec 32 := Scalar.addi c0_i32_557 v618
  v619.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_561 : BitVec 32 := 256#32
  let v627 : BitVec 32 := Scalar.muli v24 c256_i32_561
  let c0_i32_567 : BitVec 32 := 0#32
  ![v627.toNat, 0]
def k0_dev23 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_574 : BitVec 32 := 1#32
  let v637 : BitVec 32 := Scalar.muli v13 c1_i32_574
  let v638 : BitVec 32 := Scalar.addi c0_i32_575 v637
  v638.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_578 : BitVec 32 := 256#32
  let v645 : BitVec 32 := Scalar.muli v24 c256_i32_578
  let c256_i32_584 : BitVec 32 := 256#32
  ![v645.toNat, 256]
def k0_dev24 (d0 : Dev nD) : Nat :=
  let c0_i32_592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_591 : BitVec 32 := 1#32
  let v655 : BitVec 32 := Scalar.muli v13 c1_i32_591
  let v656 : BitVec 32 := Scalar.addi c0_i32_592 v655
  v656.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_595 : BitVec 32 := 256#32
  let v663 : BitVec 32 := Scalar.muli v24 c256_i32_595
  let c512_i32_601 : BitVec 32 := 512#32
  ![v663.toNat, 512]
def k0_dev25 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_608 : BitVec 32 := 1#32
  let v673 : BitVec 32 := Scalar.muli v13 c1_i32_608
  let v674 : BitVec 32 := Scalar.addi c0_i32_609 v673
  v674.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_612 : BitVec 32 := 256#32
  let v681 : BitVec 32 := Scalar.muli v24 c256_i32_612
  let c768_i32_618 : BitVec 32 := 768#32
  ![v681.toNat, 768]
def k0_dev26 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_625 : BitVec 32 := 1#32
  let v691 : BitVec 32 := Scalar.muli v13 c1_i32_625
  let v692 : BitVec 32 := Scalar.addi c0_i32_626 v691
  v692.toNat
def k0_off12 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_629 : BitVec 32 := 256#32
  let v699 : BitVec 32 := Scalar.muli v13 c256_i32_629
  let c0_i32_635 : BitVec 32 := 0#32
  ![v699.toNat, 0]
def k0_off13 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_654 : BitVec 32 := 256#32
  let v726 : BitVec 32 := Scalar.muli v13 c256_i32_654
  let c256_i32_660 : BitVec 32 := 256#32
  ![v726.toNat, 256]
def k0_off14 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_679 : BitVec 32 := 256#32
  let v753 : BitVec 32 := Scalar.muli v13 c256_i32_679
  let c512_i32_685 : BitVec 32 := 512#32
  ![v753.toNat, 512]
def k0_off15 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_704 : BitVec 32 := 256#32
  let v780 : BitVec 32 := Scalar.muli v13 c256_i32_704
  let c768_i32_710 : BitVec 32 := 768#32
  ![v780.toNat, 768]
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Places.lean ====
/-
The places and the values of the kernel: the ring of four devices, the slots of the six exchange
buffers, the 256 × 256 pieces of the result, the column chunks of the second argument, and what
each of them holds as a function of the arguments at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device to the right, -/
def nxt (c : Dev nD) : Dev nD := ⟨(c.val + 1) % 4, Nat.mod_lt _ (by decide)⟩
set_option backward.proofsInPublic true in
/-- the device to the left, -/
def prv (c : Dev nD) : Dev nD := ⟨(c.val + 3) % 4, Nat.mod_lt _ (by decide)⟩
set_option backward.proofsInPublic true in
/-- the device across. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem opp_opp (c : Dev nD) : opp (opp c) = c := by revert c; decide
theorem opp_nxt (c : Dev nD) : opp (nxt c) = prv c := by revert c; decide
theorem nxt_opp (c : Dev nD) : nxt (opp c) = prv c := by revert c; decide
theorem prv_opp (c : Dev nD) : prv (opp c) = nxt c := by revert c; decide

/-- One step to the right, as a permutation of the devices. -/
def ring : Dev nD ≃ Dev nD := ⟨nxt, prv, prv_nxt, nxt_prv⟩

/-! ## Slots, pieces and chunks -/

/-- The scratch and array operands of the body, whole. -/
abbrev mA : Memref sig .tc .hbm S1024x512 .f32 := Memref.whole main_arg0
abbrev mB : Memref sig .tc .hbm S512x1024 .f32 := Memref.whole main_arg1
abbrev mO : Memref sig .tc .hbm S1024x1024 .bf16 := Memref.whole main_v1
abbrev vA : Memref sig .tc .vmem S1024x512 .f32 := Memref.whole cc0_scratch0
abbrev vB : Memref sig .tc .vmem S512x1024 .f32 := Memref.whole cc0_scratch1
abbrev vH : Memref sig .tc .vmem S1024x512 .bf16 := Memref.whole cc0_scratch2
abbrev xDf : Memref sig .tc .vmem S4x256x256 .bf16 := Memref.whole cc0_scratch3
abbrev yDf : Memref sig .tc .vmem S4x256x256 .bf16 := Memref.whole cc0_scratch4
abbrev xDi : Memref sig .tc .vmem S4x256x256 .bf16 := Memref.whole cc0_scratch5
abbrev yDi : Memref sig .tc .vmem S4x256x256 .bf16 := Memref.whole cc0_scratch6
abbrev xCo : Memref sig .tc .vmem S4x256x256 .bf16 := Memref.whole cc0_scratch7
abbrev yCo : Memref sig .tc .vmem S4x256x256 .bf16 := Memref.whole cc0_scratch8
abbrev vG : Memref sig .tc .vmem S4x256x256 .bf16 := Memref.whole cc0_scratch9

theorem slot_inb (h : Fin 4) : ∀ a, (![h.val, 0, 0] : Fin 3 → Nat) a + S1x256x256.size a ≤ S4x256x256.size a := by
  revert h; decide
theorem chunk_inb (h : Fin 4) : ∀ a, (![0, 256 * h.val] : Fin 2 → Nat) a + S512x256.size a ≤ S512x1024.size a := by
  revert h; decide
theorem rows_inb (q : Fin 4) : ∀ a, (![256 * q.val, 0] : Fin 2 → Nat) a + S256x512.size a ≤ S1024x512.size a := by
  revert q; decide
theorem piece_inb (q h : Fin 4) : ∀ a, (![256 * q.val, 256 * h.val] : Fin 2 → Nat) a + S256x256.size a ≤ S1024x1024.size a := by
  revert q h; decide

/-- Slot `h` of an exchange buffer, the columns `256 h ..` of a 512 × 1024 array, the rows `256 q ..` of a
    1024 × 512 array, the 256 × 256 piece of the result at row block `q` and column block `h`. -/
abbrev slotR (h : Fin 4) : Rect S4x256x256 := Rect.unit (s := S4x256x256) ![h.val, 0, 0] S1x256x256.size (slot_inb h)
abbrev chunkR (h : Fin 4) : Rect S512x1024 := Rect.unit (s := S512x1024) ![0, 256 * h.val] S512x256.size (chunk_inb h)
abbrev rowsR (q : Fin 4) : Rect S1024x512 := Rect.unit (s := S1024x512) ![256 * q.val, 0] S256x512.size (rows_inb q)
abbrev pieceR (qh : Fin 4 × Fin 4) : Rect S1024x1024 :=
  Rect.unit (s := S1024x1024) ![256 * qh.1.val, 256 * qh.2.val] S256x256.size (piece_inb qh.1 qh.2)

abbrev slotM (M : Memref sig .tc .vmem S4x256x256 .bf16) (h : Fin 4) : Memref sig .tc .vmem S1x256x256 .bf16 :=
  M.slice (slotR h) (fun _ => rfl)
/-- The slot as the transfers see it, its leading axis of size one dropped. -/
abbrev slot (M : Memref sig .tc .vmem S4x256x256 .bf16) (h : Fin 4) : Memref sig .tc .vmem S256x256 .bf16 :=
  (slotM M h).squeeze S256x256 Facts₀.squeezes_S1x256x256_S256x256
abbrev chunkA (h : Fin 4) : Memref sig .tc .hbm S512x256 .f32 := mB.slice (chunkR h) (fun _ => rfl)
abbrev chunkV (h : Fin 4) : Memref sig .tc .vmem S512x256 .f32 := vB.slice (chunkR h) (fun _ => rfl)
abbrev piece (q h : Fin 4) : Memref sig .tc .hbm S256x256 .bf16 := mO.slice (pieceR (q, h)) (fun _ => rfl)

/-- A slot's contents with the leading axis of size one dropped. -/
def sq {α : Type} (v : S1x256x256.Idx → α) : S256x256.Idx → α :=
  fun j => v (Shape.reshapeEquiv Facts₀.squeezes_S1x256x256_S256x256.numel_eq j)

/-- Every contents of a squeezed slot is some contents of the slot. -/
theorem exists_sq {α : Type} (X : S256x256.Idx → α) : ∃ v, X = sq v :=
  ⟨fun i => X ((Shape.reshapeEquiv Facts₀.squeezes_S1x256x256_S256x256.numel_eq).symm i), by
    funext j; exact congrArg X (Equiv.symm_apply_apply _ j).symm⟩

theorem sq_injective {α : Type} {v w : S1x256x256.Idx → α} (h : sq v = sq w) : v = w := by
  funext i
  have := congrFun h ((Shape.reshapeEquiv Facts₀.squeezes_S1x256x256_S256x256.numel_eq).symm i)
  simp only [sq, Equiv.apply_symm_apply] at this; exact this

/-! ### Each family is pairwise disjoint and covers -/

theorem slot_disjoint (h h' : Fin 4) (hne : h ≠ h') : Disjoint (slotR h).set (slotR h').set :=
  Rect.unit_disjoint (0 : Fin 3) (by
    have := Fin.val_ne_of_ne hne
    show h.val + 1 ≤ h'.val ∨ h'.val + 1 ≤ h.val
    omega)
theorem chunk_disjoint (h h' : Fin 4) (hne : h ≠ h') : Disjoint (chunkR h).set (chunkR h').set :=
  Rect.unit_disjoint (1 : Fin 2) (by
    have := Fin.val_ne_of_ne hne
    show 256 * h.val + 256 ≤ 256 * h'.val ∨ 256 * h'.val + 256 ≤ 256 * h.val
    omega)
theorem piece_disjoint (p p' : Fin 4 × Fin 4) (hne : p ≠ p') : Disjoint (pieceR p).set (pieceR p').set := by
  by_cases h1 : p.1 = p'.1
  · have h2 : p.2 ≠ p'.2 := fun h2 => hne (Prod.ext h1 h2)
    exact Rect.unit_disjoint (1 : Fin 2) (by
      have := Fin.val_ne_of_ne h2
      show 256 * p.2.val + 256 ≤ 256 * p'.2.val ∨ 256 * p'.2.val + 256 ≤ 256 * p.2.val
      omega)
  · exact Rect.unit_disjoint (0 : Fin 2) (by
      have := Fin.val_ne_of_ne h1
      show 256 * p.1.val + 256 ≤ 256 * p'.1.val ∨ 256 * p'.1.val + 256 ≤ 256 * p.1.val
      omega)

theorem slot_cover : (Finset.univ : Finset (Fin 4)).biUnion (fun h => (slotR h).set) = Finset.univ := by
  ext i
  simp only [Finset.mem_biUnion, Finset.mem_univ, true_and, iff_true]
  have h0 : (i 0).val < 4 := (i 0).isLt
  refine ⟨⟨(i 0).val, h0⟩, Rect.mem_set_unit.mpr fun a => ?_⟩
  match a with
  | ⟨0, _⟩ => exact ⟨le_rfl, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩
theorem chunk_cover : (Finset.univ : Finset (Fin 4)).biUnion (fun h => (chunkR h).set) = Finset.univ := by
  ext i
  simp only [Finset.mem_biUnion, Finset.mem_univ, true_and, iff_true]
  have h1 : (i 1).val < 1024 := (i 1).isLt
  refine ⟨⟨(i 1).val / 256, by omega⟩, Rect.mem_set_unit.mpr fun a => ?_⟩
  match a with
  | ⟨0, _⟩ => exact ⟨Nat.zero_le _, (Nat.zero_add _).symm ▸ (i 0).isLt⟩
  | ⟨1, _⟩ =>
    show 256 * ((i 1).val / 256) ≤ (i 1).val ∧ (i 1).val < 256 * ((i 1).val / 256) + 256
    omega
theorem piece_cover : (Finset.univ : Finset (Fin 4 × Fin 4)).biUnion (fun p => (pieceR p).set) = Finset.univ := by
  ext i
  simp only [Finset.mem_biUnion, Finset.mem_univ, true_and, iff_true]
  have h0 : (i 0).val < 1024 := (i 0).isLt
  have h1 : (i 1).val < 1024 := (i 1).isLt
  refine ⟨(⟨(i 0).val / 256, by omega⟩, ⟨(i 1).val / 256, by omega⟩), Rect.mem_set_unit.mpr fun a => ?_⟩
  match a with
  | ⟨0, _⟩ =>
    show 256 * ((i 0).val / 256) ≤ (i 0).val ∧ (i 0).val < 256 * ((i 0).val / 256) + 256
    omega
  | ⟨1, _⟩ =>
    show 256 * ((i 1).val / 256) ≤ (i 1).val ∧ (i 1).val < 256 * ((i 1).val / 256) + 256
    omega

/-! ## The values -/

variable (m : (ℓ : Loc nD τ sig) → Buf (Elt F) ℓ)

/-- Device `c`'s blocks of the two arguments at launch. -/
def argA (c : Dev nD) : Vec F S1024x512 .f32 := m ((c : Thread nD τ).loc main_arg0)
def argB (c : Dev nD) : Vec F S512x1024 .f32 := m ((c : Thread nD τ).loc main_arg1)

/-- Its first block rounded, the rows of row block `q` of that, and the columns of column block `h` of its second. -/
def half (c : Dev nD) : Vec F S1024x512 .bf16 := k0_pay1 (argA m c)
def rowsOf (c q : Dev nD) : Vec F S256x512 .bf16 := fun i => half m c ((rowsR q).emb i)
def colsOf (c : Dev nD) (h : Fin 4) : Vec F S512x256 .f32 := fun i => argB m c ((chunkR h).emb i)

/-- What device `c` sends to the left for the device across, what it sends to the right for its right
    neighbour, what it keeps to add for its left neighbour, and what it keeps for itself. -/
def dflow (c : Dev nD) (h : Fin 4) : FVec F S1x256x256 .bf16 := k0_pay3 (colsOf m c h) (rowsOf m c (opp c))
def direct (c : Dev nD) (h : Fin 4) : FVec F S1x256x256 .bf16 := k0_pay4 (k0_pay2 (colsOf m c h)) (rowsOf m c (nxt c))
def forLeft (c : Dev nD) (h : Fin 4) : FVec F S256x256 .f32 := k0_pay5 (k0_pay2 (colsOf m c h)) (rowsOf m c (prv c))
def forSelf (c : Dev nD) (h : Fin 4) : FVec F S256x256 .f32 := k0_pay6 (k0_pay2 (colsOf m c h)) (rowsOf m c c)

/-- What device `c` sends to the left once its right neighbour's share arrived, and its finished piece of the
    result once that of its right neighbour and the direct share of its left neighbour arrived. -/
def comb (c : Dev nD) (h : Fin 4) : FVec F S1x256x256 .bf16 := k0_pay22 (forLeft m c h) (dflow m (nxt c) h)
def done (c : Dev nD) (h : Fin 4) : FVec F S1x256x256 .bf16 :=
  k0_pay27 (forSelf m c h) (comb m (nxt c) h) (direct m (prv c) h)

/-- The result every device ends with: at row block `q` and column block `h`, device `q`'s finished piece `h`. -/
def result : Vec F S1024x1024 .bf16 :=
  Rect.glue pieceR piece_cover fun p => sq (done m p.1 p.2)

theorem result_piece (q h : Fin 4) : (fun j => result m ((pieceR (q, h)).emb j)) = sq (done m q h) :=
  funext fun j => Rect.glue_emb pieceR piece_cover piece_disjoint (fun p => sq (done m p.1 p.2)) (q, h) j

end Cert.KernelIdeal.Ring

end
-- ==== Proof.Protocol.lean ====
/-
The protocol of the kernel's semaphores. Every cell has one round. A barrier cell is paid one unit by
each of the two neighbours, and each unit hands over the places on that neighbour that the owner will
send to. A DMA cell is paid once, by the transfer that names it, and hands over the places that
transfer read (a send cell) or wrote (a receive cell), at contents that are functions of the
arguments at launch.
-/
module

public import proofs.«01_k».proof.Proof.Places
public import Idealize.ShloMosaic.Lib.Rounds

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB := URounds (GSem nD τ sig) Bool
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem

set_option backward.proofsInPublic true in
/-- The semaphores of the five copies of the arguments, -/
def di (i : Fin 5) : DmaSem sig := ⟨i.val, lt_of_lt_of_le i.isLt (by decide)⟩
set_option backward.proofsInPublic true in
/-- and those of column block `h`, in thirteen kinds: sent and received for the share to the device across
    (0, 1), the direct share (2, 3), the combined share (4, 5), the finished piece sent right (6, 7) and left
    (8, 9), the piece passed on to the right (10, 11), and the piece kept (12). -/
def kd (j : Fin 13) (h : Fin 4) : DmaSem sig := ⟨5 + 4 * j.val + h.val, lt_of_lt_of_le (by omega : _ < 57) (by decide)⟩

abbrev barCell (c : Dev nD) : GSem nD τ sig := ((c : Thread nD τ), .reg barS)
abbrev dcell (c : Dev nD) (s : DmaSem sig) : GSem nD τ sig := ((c : Thread nD τ), .dma s)
/-- A device's cells: `none` its barrier cell, `some s` its cell of DMA semaphore `s`. -/
abbrev csem : Option (DmaSem sig) → SemLoc sig := fun | none => .reg barS | some s => .dma s
abbrev kcell (ck : Dev nD × Option (DmaSem sig)) : GSem nD τ sig := ((ck.1 : Thread nD τ), csem ck.2)

/-! ## The credits -/

abbrev N : ℕ := (slot yDf 0).view.dmaCredit
abbrev NA : ℕ := vA.view.dmaCredit
abbrev NB : ℕ := (chunkV 0).view.dmaCredit

theorem N_pos : 0 < N := View.dmaCredit_pos _ (by decide)
theorem NA_pos : 0 < NA := View.dmaCredit_pos _ (by decide)
theorem NB_pos : 0 < NB := View.dmaCredit_pos _ (by decide)

/-- What one transfer credits the cell of semaphore `s`. -/
def amt (s : DmaSem sig) : ℕ := if s.val = 0 then NA else if s.val < 5 then NB else N

theorem amt_pos (s : DmaSem sig) : 0 < amt s := by
  unfold amt; split
  · exact NA_pos
  · split
    · exact NB_pos
    · exact N_pos
theorem amt_kd (j : Fin 13) (h : Fin 4) : amt (kd j h) = N := by
  unfold amt kd; rw [if_neg (by simp only; omega), if_neg (by simp only; omega)]

/-! ## What the transfers hand over -/

variable (m : (ℓ : Loc nD τ sig) → Buf (Elt F) ℓ)

omit [FloatOps F] in
/-- Device `d`'s slot `h` of an exchange buffer, at some contents; -/
def anyS (d : Dev nD) (M : Memref sig .tc .vmem S4x256x256 .bf16) (h : Fin 4) : sProp 𝕄 :=
  iprop(∃ X, ownsTc d (slot M h) fullShare X)
omit [FloatOps F] in
/-- device `d`'s piece of the result at row block `q` and column block `h`, at some contents. -/
def anyP (d q h : Fin 4) : sProp 𝕄 := iprop(∃ X, ownsTc (d : Dev nD) (piece q h) fullShare X)

instance anyS_storable (d : Dev nD) (M : Memref sig .tc .vmem S4x256x256 .bf16) (h : Fin 4) :
    BI.Storable (upEmb : UEmb _ 𝕄) (anyS (F := F) d M h) := by unfold anyS; infer_instance
instance anyP_storable (d q h : Fin 4) : BI.Storable (upEmb : UEmb _ 𝕄) (anyP (F := F) d q h) := by
  unfold anyP; infer_instance

/-- The shares of a finished piece's slot that its three transfers read: kept, to the right, to the left. -/
abbrev qOwn : PosShare TreeShare := (fullShare : PosShare TreeShare).left
abbrev qR : PosShare TreeShare := (fullShare : PosShare TreeShare).right.left
abbrev qL : PosShare TreeShare := (fullShare : PosShare TreeShare).right.right

/-- The two copies of the arguments into the scratch buffers, -/
def inA (c : Dev nD) : sProp 𝕄 := iprop(ownsTc c vA fullShare (argA m c) ∗ ownsTc c mA fullShare (argA m c))
def inB (c : Dev nD) (h : Fin 4) : sProp 𝕄 :=
  iprop(ownsTc c (chunkV h) fullShare (colsOf m c h) ∗ ownsTc c (chunkA h) fullShare (colsOf m c h))

/-- and the transfers of column block `h`, by kind. -/
def handed (c : Dev nD) (h : Fin 4) : ℕ → sProp 𝕄
  | 0 => ownsTc c (slot xDf h) fullShare (sq (dflow m c h))
  | 1 => ownsTc c (slot yDf h) fullShare (sq (dflow m (nxt c) h))
  | 2 => ownsTc c (slot xDi h) fullShare (sq (direct m c h))
  | 3 => ownsTc c (slot yDi h) fullShare (sq (direct m (prv c) h))
  | 4 => ownsTc c (slot xCo h) fullShare (sq (comb m c h))
  | 5 => ownsTc c (slot yCo h) fullShare (sq (comb m (nxt c) h))
  | 6 => ownsTc c (slot vG h) qR (sq (done m c h))
  | 7 => ownsTc c (piece (prv c) h) fullShare (sq (done m (prv c) h))
  | 8 => ownsTc c (slot vG h) qL (sq (done m c h))
  | 9 => ownsTc c (piece (nxt c) h) fullShare (sq (done m (nxt c) h))
  | 10 => ownsTc c (piece (prv c) h) fullShare (sq (done m (prv c) h))
  | 11 => ownsTc c (piece (opp c) h) fullShare (sq (done m (opp c) h))
  | _ => iprop(ownsTc c (piece c h) fullShare (sq (done m c h)) ∗ ownsTc c (slot vG h) qOwn (sq (done m c h)))

/-- What the cell of semaphore `s` on device `c` hands over. -/
def landed (c : Dev nD) (s : DmaSem sig) : sProp 𝕄 :=
  if s.val = 0 then inA m c
  else if s.val < 5 then inB m c ⟨(s.val + 3) % 4, Nat.mod_lt _ (by decide)⟩
  else handed m c ⟨(s.val + 3) % 4, Nat.mod_lt _ (by decide)⟩ ((s.val - 5) / 4)

theorem landed_kd (c : Dev nD) (j : Fin 13) (h : Fin 4) : landed m c (kd j h) = handed m c h j.val := by
  unfold landed kd
  rw [if_neg (by simp only; omega), if_neg (by simp only; omega)]
  congr 1
  · exact Fin.ext (by simp only; omega)
  · simp only; omega
theorem landed_in0 (c : Dev nD) : landed m c (di 0) = inA m c := if_pos rfl
theorem landed_in (c : Dev nD) (h : Fin 4) : landed m c (di h.succ) = inB m c h := by
  unfold landed di
  rw [if_neg (by simp only [Fin.val_succ]; omega), if_pos (by simp only [Fin.val_succ]; omega)]
  congr 1
  exact Fin.ext (by simp only [Fin.val_succ]; omega)

/-- What the right neighbour's signal hands device `c`: that neighbour's landing slots of the direct shares,
    and the pieces of its result that device `c` sends there, its own and the one it passes on; -/
def fromRight (c : Dev nD) : sProp 𝕄 :=
  bigSep Finset.univ fun h : Fin 4 => iprop(anyS (nxt c) yDi h ∗ anyP (nxt c) c h ∗ anyP (nxt c) (prv c) h)
/-- and the left neighbour's: its landing slots of the shares that go left, and its pieces of device `c`. -/
def fromLeft (c : Dev nD) : sProp 𝕄 :=
  bigSep Finset.univ fun h : Fin 4 => iprop(anyS (prv c) yDf h ∗ anyS (prv c) yCo h ∗ anyP (prv c) c h)

instance fromRight_storable (c : Dev nD) : BI.Storable (upEmb : UEmb _ 𝕄) (fromRight (F := F) c) := by
  unfold fromRight; infer_instance
instance fromLeft_storable (c : Dev nD) : BI.Storable (upEmb : UEmb _ 𝕄) (fromLeft (F := F) c) := by
  unfold fromLeft; infer_instance
instance handed_storable (c : Dev nD) (h : Fin 4) (n : ℕ) :
    BI.Storable (upEmb : UEmb _ 𝕄) (handed (F := F) m c h n) := by
  unfold handed; split <;> infer_instance
instance landed_storable (c : Dev nD) (s : DmaSem sig) :
    BI.Storable (upEmb : UEmb _ 𝕄) (landed (F := F) m c s) := by
  unfold landed inA inB; (repeat' split) <;> infer_instance

/-! ## The schedule -/

def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt s
  payload g _ d := match g.2 with
    | .reg _ => if d then fromRight g.1.1 else fromLeft g.1.1
    | .dma s => landed m g.1.1 s
  amount_pos g _ _ _ := by
    split
    · exact Nat.one_pos
    · exact amt_pos _

instance ringRd_payload_storable (g : GSem nD τ sig) (r : ℕ) (d : Bool) :
    BI.Storable (upEmb : UEmb _ 𝕄) ((ringRd (F := F) m).payload g r d) := by
  dsimp only [ringRd]; (repeat' split) <;> infer_instance

section Sched
variable (c : Dev nD) (s : DmaSem sig)

theorem duties_bar : (ringRd (F := F) m).duties (barCell c) 0 = Finset.univ := by
  dsimp only [ringRd]; exact if_pos ⟨rfl, rfl⟩
theorem duties_dma : (ringRd (F := F) m).duties (dcell c s) 0 = {false} := by
  dsimp only [ringRd]; exact if_pos ⟨rfl, rfl⟩
theorem duties_later (g : GSem nD τ sig) : ∀ r, 1 ≤ r → (ringRd (F := F) m).duties g r = ∅ :=
  fun r hr => by dsimp only [ringRd]; exact if_neg fun h => by omega
theorem expect_bar : (ringRd (F := F) m).expect (barCell c) 0 = 2 := by
  unfold Schedule.expect Schedule.amountOf; rw [duties_bar]; rfl
theorem expect_dma : (ringRd (F := F) m).expect (dcell c s) 0 = amt s := by
  unfold Schedule.expect Schedule.amountOf; rw [duties_dma, Finset.sum_singleton]; rfl
theorem rest_bar : bigSep ((ringRd (F := F) m).duties (barCell c) 0 \ ∅) (fun d => (ringRd (F := F) m).payload (barCell c) 0 d)
    = iprop(fromLeft c ∗ fromRight c) := by
  rw [Finset.sdiff_empty, duties_bar, bigSep_univ_eq_bigSepL [false, true] (by decide) (by decide), bigSepL_cons_cons, bigSepL_singleton]
  rfl
theorem rest_dma : bigSep ((ringRd (F := F) m).duties (dcell c s) 0 \ ∅) (fun d => (ringRd (F := F) m).payload (dcell c s) 0 d)
    = landed m c s := by
  rw [Finset.sdiff_empty, duties_dma, bigSep_singleton]; rfl

end Sched

/-! ## Which device pays a cell -/

/-- The device on which device `c` credits the semaphore `s`: a neighbour for a receive semaphore, itself otherwise. -/
def tgt (s : DmaSem sig) : Dev nD ≃ Dev nD :=
  if s.val < 5 then Equiv.refl _
  else match (s.val - 5) / 4 with
    | 1 => ring.symm | 5 => ring.symm | 9 => ring.symm
    | 3 => ring | 7 => ring | 11 => ring
    | _ => Equiv.refl _

theorem kd_kind (j : Fin 13) (h : Fin 4) : ((kd j h).val - 5) / 4 = j.val := by unfold kd; simp only; omega
theorem kd_not_lt (j : Fin 13) (h : Fin 4) : ¬ (kd j h).val < 5 := by unfold kd; simp only; omega
theorem tgt_in (i : Fin 5) (c : Dev nD) : tgt (di i) c = c := by unfold tgt; rw [if_pos (show (di i).val < 5 from i.isLt)]; rfl
theorem tgt_left (j : Fin 13) (hj : j = 1 ∨ j = 5 ∨ j = 9) (h : Fin 4) (c : Dev nD) : tgt (kd j h) c = prv c := by
  unfold tgt; rw [if_neg (kd_not_lt j h), kd_kind]; rcases hj with rfl | rfl | rfl <;> rfl
theorem tgt_right (j : Fin 13) (hj : j = 3 ∨ j = 7 ∨ j = 11) (h : Fin 4) (c : Dev nD) : tgt (kd j h) c = nxt c := by
  unfold tgt; rw [if_neg (kd_not_lt j h), kd_kind]; rcases hj with rfl | rfl | rfl <;> rfl
theorem tgt_self (j : Fin 13) (hj : j = 0 ∨ j = 2 ∨ j = 4 ∨ j = 6 ∨ j = 8 ∨ j = 10 ∨ j = 12) (h : Fin 4) (c : Dev nD) :
    tgt (kd j h) c = c := by
  unfold tgt; rw [if_neg (kd_not_lt j h), kd_kind]; rcases hj with rfl | rfl | rfl | rfl | rfl | rfl | rfl <;> rfl

/-! ## What a device owes -/

/-- The receive semaphores device `c` credits on its neighbours, in the order it sends. -/
def sendOrder : List (DmaSem sig) :=
  [kd 1 0, kd 3 0, kd 1 1, kd 3 1, kd 1 2, kd 3 2, kd 1 3, kd 3 3, kd 5 0, kd 5 1, kd 5 2, kd 5 3,
   kd 7 0, kd 9 0, kd 7 1, kd 9 1, kd 7 2, kd 9 2, kd 7 3, kd 9 3, kd 11 0, kd 11 1, kd 11 2, kd 11 3]

/-- The credits still owed when the sends of the list remain, the next one summed last. -/
def owed (c : Dev nD) : List (DmaSem sig) → CellTallies nD τ sig Unit
  | [] => 0
  | s :: l => owed c l + tallyAt (dcell (tgt s c) s) () N

/-- At launch a device owes those of all its sends and one unit to each neighbour's barrier cell. -/
def O₁ (c : Dev nD) : CellTallies nD τ sig Unit := owed c sendOrder + tallyAt (barCell (nxt c)) () 1
def O₀ (c : Dev nD) : CellTallies nD τ sig Unit := O₁ c + tallyAt (barCell (prv c)) () 1

/-! ## Levels -/

def L (g : GSem nD τ sig) : Finset Unit := if g.1.2 = .tc then {()} else ∅
/-- Each receive cell above those whose payload its send waits for, the barrier cells below all of them. -/
def level : SemLoc sig → ℕ
  | .reg _ => 1
  | .dma s => if s.val < 5 then 0 else match (s.val - 5) / 4 with
    | 1 => 2 | 3 => 3 | 5 => 3 | 7 => 4 | 9 => 4 | 11 => 5 | _ => 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {g : GSem nD τ sig} {u : Unit} : ∀ {l : List (DmaSem sig)}, 0 < owed c l g u →
    ∃ s ∈ l, g = dcell (tgt s c) s
  | [], h => absurd h (Nat.lt_irrefl 0)
  | s :: l, h => by
    by_cases hg : g = dcell (tgt s c) s
    · exact ⟨s, List.mem_cons_self, hg⟩
    · have h' : 0 < owed c l g u := by
        rw [owed, Pi.add_apply, Finsupp.add_apply, tallyAt_apply, if_neg (fun h' => hg h'.1), Nat.add_zero] at h
        exact h
      obtain ⟨s', hs', e⟩ := owed_pos h'
      exact ⟨s', List.mem_cons_of_mem _ hs', e⟩

omit [FloatOps F] in
/-- A cell may be waited on while the sends of the list are still owed, if it is below all of theirs. -/
theorem mayWait_owed (c : Dev nD) (sm : SemLoc sig) (l : List (DmaSem sig)) (hl : ∀ s ∈ l, level sm < level (.dma s)) :
    (levAts L lv : sProp 𝕄) ⊢ MayWait (c : Thread nD τ) sm () (owed c l) :=
  MayOwe.of_cut (L := L) (lev := lv) (level sm) (fun p hp => by rw [Finset.mem_singleton.mp hp, L_tc]; exact Finset.mem_singleton_self _)
    (fun g u hg => by obtain ⟨s, _, rfl⟩ := owed_pos hg; rw [L_tc]; exact Finset.mem_singleton_self _)
    (fun p hp => by rw [Finset.mem_singleton.mp hp]; exact le_rfl)
    (fun g u hg => by obtain ⟨s, hs, rfl⟩ := owed_pos hg; exact hl s hs)

end Cert.KernelIdeal.Ring

end
-- ==== Proof.Steps.lean ====
/-
One lemma for each kind of operation the body performs, stated of owned memrefs at known contents: a
wait on a DMA cell, a copy on the device, a send to a neighbour, a load, a store into a slot.
-/
module

public import proofs.«01_k».proof.Proof.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The body's programs on device `c`, and what it takes to run one from there to `Q`. -/
abbrev Pg (F : FTy → Type) [FloatOps F] := Prog (TpuEff nD τ sig (Elt F) Λ₀ .tc) PUnit
abbrev WP (c : Dev nD) (p : Pg F) (Q : PUnit → sProp 𝕄) : sProp 𝕄 :=
  wp frame (wpE (defs₀ (F := F)) 𝒱₀ (c : Thread nD τ) none) Set.univ p Q

variable (m : (ℓ : Loc nD τ sig) → Buf (Elt F) ℓ)

/-- What every device may use of every cell: its invariant, that its round 0 is reached, and the levels. -/
def records (K : Dev nD × Option (DmaSem sig) → ℕ) : sProp 𝕄 :=
  iprop((bigSep Finset.univ fun ck : Dev nD × Option (DmaSem sig) => (cellInv ER (ringRd m) (K ck) (kcell ck) : sProp 𝕄))
    ∗ (bigSep Finset.univ fun ck : Dev nD × Option (DmaSem sig) => (reached ER (kcell ck) 0 : sProp 𝕄)) ∗ levAts L lv)

instance records_persistent (K : Dev nD × Option (DmaSem sig) → ℕ) : BI.Persistent (records m K) := by
  unfold records; infer_instance

theorem records_inv (K : Dev nD × Option (DmaSem sig) → ℕ) (ck : Dev nD × Option (DmaSem sig)) :
    records m K ⊢ cellInv ER (ringRd m) (K ck) (kcell ck) := by
  unfold records; exact sep_elim_left.trans (bigSep_elim (Finset.mem_univ ck))
theorem records_reached (K : Dev nD × Option (DmaSem sig) → ℕ) (ck : Dev nD × Option (DmaSem sig)) :
    records m K ⊢ reached ER (kcell ck) 0 := by
  unfold records; exact sep_elim_right.trans (sep_elim_left.trans (bigSep_elim (Finset.mem_univ ck)))
theorem records_levels (K : Dev nD × Option (DmaSem sig) → ℕ) : records m K ⊢ levAts L lv := by
  unfold records; iintro ⟨-, -, H⟩; iexact H

/-- Device `c` owes `O`, whatever it has waited on. -/
def owesAny (c : Dev nD) (O : CellTallies nD τ sig Unit) : sProp 𝕄 := iprop(∃ W, owes (c : Thread nD τ) O W)
/-- The right to pay, by its transfer, the cell of semaphore `s` on the device it credits; -/
def tok (c : Dev nD) (s : DmaSem sig) : sProp 𝕄 := dutyTok ER (dcell (tgt s c) s) 0 false
/-- the credit device `c` waits on that semaphore with; its own position there; the counter once done with. -/
def due (c : Dev nD) (s : DmaSem sig) : sProp 𝕄 := cred (tallyAt (dcell c s) () (amt s))
def pos (c : Dev nD) (s : DmaSem sig) : sProp 𝕄 := atPos ER (dcell c s) 0 ∅ 0
def zero (c : Dev nD) (s : DmaSem sig) : sProp 𝕄 := semVal (dcell c s) 0

omit [FloatOps F] in
/-- Elements at contents that a memref reads as `X` are the memref owned at `X`. -/
theorem owns_of (c : Dev nD) {sp : Space} {sh : Shape} {e : EltTy} {M : Memref sig .tc sp sh e} {q : PosShare TreeShare}
    {f : Buf (Elt F) (M.view.loc (c : Thread nD τ))} {X : sh.Idx → Elt F e} (h : M.view.read (Elt F) f = X) :
    (M.view.loc (c : Thread nD τ) ↦[M.view.set]{q} f : sProp 𝕄) ⊢ ownsTc c M q X := by
  subst h; exact owns_intro (c : Thread nD τ) M q f

section Steps
variable (K : Dev nD × Option (DmaSem sig) → ℕ) (c : Dev nD)

/-- A wait on a DMA cell: what its transfer hands over, and the cell is done with. -/
theorem wait_step (s : DmaSem sig) {sp sp' : Space} {sh sh' : Shape} {e e' : EltTy}
    {src : Memref sig .tc sp sh e} {dst : Memref sig .tc sp' sh' e'}
    {hsrc : src.view.WordExact} {hdst : dst.view.WordExact} {k : PUnit → Pg F} {Q : PUnit → sProp 𝕄} (l : List (DmaSem sig))
    (hN : dst.view.dmaCredit = amt s) (hl : ∀ s' ∈ l, level (.dma s) < level (.dma s')) :
    iprop(records m K ∗ due c s ∗ owesAny c (owed c l) ∗ pos c s)
      ⊢ iprop(((owesAny c (owed c l) ∗ zero c s ∗ landed m c s) -∗ WP c (k ⟨⟩) Q)
          -∗ WP c (.op (TpuEff.waitDma2 (p := (Proc.tc : Proc τ)) s src dst hsrc hdst) k) Q) := by
  unfold owesAny due pos zero
  iintro ⟨#HR, Hc, ⟨%W, HO⟩, Hat⟩ Hk
  iapply (Rounds.wp_wait_rest_token 𝒱₀ ER (ringRd m) (c : Thread nD τ) none (κ := K (c, some s))
      (wpE_waitDma2_eq 𝒱₀ (c : Thread nD τ) none Set.univ) (Set.mem_univ _) () (O := owed c l) (W := W) (R := 0) (m := 0) (T := ∅)
      (by rw [Nat.zero_add, expect_dma, hN])) $$ [Hc HO Hat]
  · isplitr; · iapply (records_inv m K (c, some s)); iexact HR
    isplitl [Hc]; · rw [hN]; iexact Hc
    isplitl [HO]; · iexact HO
    isplitr
    · iapply (mayWait_owed c (.dma s) l hl); iapply (records_levels m K); iexact HR
    iexact Hat
  iintro ⟨HO, Hat, -, Hpay⟩
  ihave Hp := (Entails.of_eq (rest_dma m c s)) $$ Hpay
  imod (Rounds.cell_close ER (ringRd m) (Set.mem_univ (K (c, some s))) (fun h => h) (R := 0 + 1) (duties_later m (dcell c s))) $$ [Hat] with Hz
  · isplitr; · iapply (records_inv m K (c, some s)); iexact HR
    iexact Hat
  iapply Hk
  isplitl [HO]; · iexists _; iexact HO
  isplitl [Hz] <;> iassumption

/-- A copy on the device: it pays its cell with both its ends. -/
theorem copy_step (s : DmaSem sig) {sp sp' : Space} {sh : Shape} {e : EltTy}
    {src : Memref sig .tc sp sh e} {dst : Memref sig .tc sp' sh e}
    {hsrc : src.view.WordExact} {hdst : dst.view.WordExact} {hsem : DmaTarget.Typed sp (.dma s) (DmaTarget.here (nD := nD) (p := (Proc.tc : Proc τ)) dst)}
    {k : PUnit → Pg F} {Q : PUnit → sProp 𝕄} (q : PosShare TreeShare) (X : sh.Idx → Elt F e)
    (hN : dst.view.dmaCredit = amt s) (ht : tgt s c = c)
    (hpay : iprop(ownsTc c dst fullShare X ∗ ownsTc c src q X) ⊢ landed m c s) :
    iprop(records m K ∗ ownsTc c src q X ∗ (∃ Y, ownsTc c dst fullShare Y) ∗ tok c s)
      ⊢ iprop((due c s -∗ WP c (k ⟨⟩) Q)
          -∗ WP c (.op (TpuEff.enqueueDma (p := (Proc.tc : Proc τ)) src (.here dst) (.dma s) hsrc hdst hsem) k) Q) := by
  unfold due tok ownsTc owns
  rw [ht]
  iintro ⟨#HR, ⟨%fs, %hfs, Hs⟩, ⟨%Y, %fd, %hfd, Hd⟩, Ht⟩ Hk
  iapply (Rounds.wp_copy_pointsTo 𝒱₀ ER (ringRd m) (c : Thread nD τ) none (κ := K (c, some s)) (src := src) (dst := dst)
      (sem := .dma s) (fs := fs) (fd := fd) (r := 0) (d := false) (q := q)
      (by rw [duties_dma]; exact Finset.mem_singleton_self _) () (amt s) hN rfl
      (BIBase.Entails.trans (BIClass.sep_mono (owns_of c (by rw [View.read_write_univ, hfs])) (owns_of c hfs)) hpay)) $$ [Hs Hd Ht]
  · isplitr; · iapply (records_inv m K (c, some s)); iexact HR
    isplitl [Hs]; · iexact Hs
    isplitl [Hd]; · iexact Hd
    isplitl [Ht]; · iexact Ht
    iapply (records_reached m K (c, some s)); iexact HR
  iexact Hk

/-- A send: it pays the receive cell on the other device, off what is owed, and the send cell here. -/
theorem send_step (n : Dev nD) (sS sR : DmaSem sig) {sp sp' : Space} {sh : Shape} {e : EltTy}
    {src : Memref sig .tc sp sh e} {dst : Memref sig .tc sp' sh e}
    {hsc : dst.view.ref.isScScratch = false}
    {hsrc : src.view.WordExact} {hdst : dst.view.WordExact}
    {hsem : DmaTarget.Typed sp (.dma sR) (DmaTarget.remote (p := (Proc.tc : Proc τ)) (n : Thread nD τ) dst (.dma sS) hsc)}
    {k : PUnit → Pg F} {Q : PUnit → sProp 𝕄} (q : PosShare TreeShare) (X : sh.Idx → Elt F e) (l : List (DmaSem sig))
    (hn : n = tgt sR c) (hs : tgt sS c = c) (hS : amt sS = N) (hR : amt sR = N) (hN : dst.view.dmaCredit = N)
    (hpayS : ownsTc c src q X ⊢ landed m c sS) (hpayR : ownsTc n dst fullShare X ⊢ landed m n sR) :
    iprop(records m K ∗ ownsTc c src q X ∗ (∃ Y, ownsTc n dst fullShare Y) ∗ owesAny c (owed c (sR :: l)) ∗ tok c sS ∗ tok c sR)
      ⊢ iprop(((due c sS ∗ owesAny c (owed c l)) -∗ WP c (k ⟨⟩) Q)
          -∗ WP c (.op (TpuEff.enqueueDma (p := (Proc.tc : Proc τ)) src (.remote (n : Thread nD τ) dst (.dma sS) hsc) (.dma sR) hsrc hdst hsem) k) Q) := by
  unfold due tok ownsTc owns owesAny
  rw [hs, ← hn, hS]
  iintro ⟨#HR, ⟨%fs, %hfs, Hs⟩, ⟨%Y, %fd, %hfd, Hd⟩, ⟨%W, HO⟩, HtS, HtR⟩ Hk
  iapply (Rounds.wp_send_pointsTo 𝒱₀ ER (ringRd m) (c : Thread nD τ) none (c' := (n : Thread nD τ)) (κ₁ := K (c, some sS)) (κ₂ := K (n, some sR))
      (r₁ := 0) (r₂ := 0) (d₁ := false) (d₂ := false) (q := q) (src := src) (dst := dst) (sS := .dma sS) (sem := .dma sR) (fs := fs) (fd := fd)
      (by rw [duties_dma]; exact Finset.mem_singleton_self _) (by rw [duties_dma]; exact Finset.mem_singleton_self _)
      () () N hN hS hR (owed c l) (by rw [hn])
      (BIBase.Entails.trans (owns_of c hfs) hpayS)
      (BIBase.Entails.trans (owns_of n (by rw [View.read_write_univ, hfs])) hpayR)) $$ [Hs Hd HO HtS HtR]
  · isplitr; · iapply (records_inv m K (c, some sS)); iexact HR
    isplitr; · iapply (records_inv m K (n, some sR)); iexact HR
    isplitl [Hs]; · iexact Hs
    isplitl [Hd]; · iexact Hd
    isplitl [HO]; · iexact HO
    isplitl [HtS]; · iexact HtS
    isplitr; · iapply (records_reached m K (c, some sS)); iexact HR
    isplitl [HtR]; · iexact HtR
    iapply (records_reached m K (n, some sR)); iexact HR
  iintro ⟨Hc, HO⟩
  iapply Hk
  isplitl [Hc]; · iexact Hc
  iexists W; iexact HO

/-! ### Loads and stores -/

/-- A load of a rectangle, from the rectangle's own elements; -/
theorem load_part {sh : Shape} {e : EltTy} {M : Memref sig .tc .vmem sh e} {r : Rect sh} (hr : ∀ a, r.stride a = 1)
    {hl : M.view.LoadsAt (r : LoadRect sh)} {k : (r.shape.Idx → Elt F e) → Pg F} {Q : PUnit → sProp 𝕄} {q : PosShare TreeShare} {X : r.shape.Idx → Elt F e} :
    ownsTc c (M.slice r hr) q X
      ⊢ iprop((ownsTc c (M.slice r hr) q X -∗ WP c (k X) Q) -∗ WP c (.op (.load M (r : LoadRect sh) hl) k) Q) := by
  unfold ownsTc owns
  iintro ⟨%f, %hf, H⟩ Hk
  iapply (wp_load_rect 𝒱₀ (c : Thread nD τ) none Set.univ (m := M) (r := r) (S := (M.slice r hr).view.set) (q := q) (f := f) (Finset.Subset.refl _)) $$ H
  iintro H
  subst hf
  iapply Hk
  iexists f; isplitr; · ipureintro; rfl
  iexact H

/-- or from all of the memref's. -/
theorem load_rect {sh : Shape} {e : EltTy} {M : Memref sig .tc .vmem sh e} {r : Rect sh}
    {hl : M.view.LoadsAt (r : LoadRect sh)} {k : (r.shape.Idx → Elt F e) → Pg F} {Q : PUnit → sProp 𝕄} {q : PosShare TreeShare} {X : sh.Idx → Elt F e} :
    ownsTc c M q X
      ⊢ iprop((ownsTc c M q X -∗ WP c (k (fun i => X (r.emb i))) Q) -∗ WP c (.op (.load M (r : LoadRect sh) hl) k) Q) := by
  unfold ownsTc owns
  iintro ⟨%f, %hf, H⟩ Hk
  iapply (wp_load_rect 𝒱₀ (c : Thread nD τ) none Set.univ (m := M) (r := r) (S := M.view.set) (q := q) (f := f) (View.set_slice_subset _ _)) $$ H
  iintro H
  subst hf
  iapply Hk
  iexists f; isplitr; · ipureintro; rfl
  iexact H

/-- Owning a slot is owning it before its leading axis is dropped. -/
theorem owns_slot (M : Memref sig .tc .vmem S4x256x256 .bf16) (h : Fin 4) (q : PosShare TreeShare) (v : S1x256x256.Idx → Elt F .bf16) :
    (ownsTc c (slot M h) q (sq v) : sProp 𝕄) = ownsTc c (slotM M h) q v := by
  unfold ownsTc owns
  have hset : (slot M h).view.set = (slotM M h).view.set := View.set_reshape _ _
  refine congrArg _ (funext fun f => ?_)
  have hr : ((slot M h).view.read (Elt F) f = sq v) = ((slotM M h).view.read (Elt F) f = v) :=
    propext ⟨fun hh => sq_injective hh, fun hh => congrArg sq hh⟩
  rw [hr]
  exact congrArg (fun S => iprop(⌜(slotM M h).view.read (Elt F) f = v⌝ ∗ ((slotM M h).view.loc (c : Thread nD τ) ↦[S]{q} f))) hset

theorem load_slot {M : Memref sig .tc .vmem S4x256x256 .bf16} {h : Fin 4}
    {hl : M.view.LoadsAt (slotR h : LoadRect S4x256x256)} {k : (S1x256x256.Idx → Elt F .bf16) → Pg F} {Q : PUnit → sProp 𝕄} {q : PosShare TreeShare}
    {v : S1x256x256.Idx → Elt F .bf16} :
    ownsTc c (slot M h) q (sq v)
      ⊢ iprop((ownsTc c (slot M h) q (sq v) -∗ WP c (k v) Q) -∗ WP c (.op (.load M (slotR h : LoadRect S4x256x256) hl) k) Q) := by
  rw [owns_slot]
  exact load_part c (fun _ => rfl)

/-- A slot is written whole, after a load of it whose value is not used. -/
theorem put_slot {M : Memref sig .tc .vmem S4x256x256 .bf16} {h : Fin 4}
    {hl : M.view.LoadsAt (slotR h : LoadRect S4x256x256)} {w : S1x256x256.Idx → Elt F .bf16}
    {hx : (M.access (slotR h)).Stores Finset.univ} {hm : Finset.univ = Finset.univ ∨ ∀ a, (slotR h).stride a = 1}
    {k : PUnit → Pg F} {Q : PUnit → sProp 𝕄} :
    anyS c M h
      ⊢ iprop((ownsTc c (slot M h) fullShare (sq w) -∗ WP c (k ⟨⟩) Q)
          -∗ WP c (.op (.load M (slotR h : LoadRect S4x256x256) hl) fun _ => .op (.store M (slotR h) w Finset.univ hx hm) k) Q) := by
  unfold anyS
  iintro ⟨%X, H⟩ Hk
  obtain ⟨v, rfl⟩ := exists_sq X
  iapply (load_slot c) $$ H
  iintro H
  ihave H := ((Entails.of_eq (owns_slot c M h fullShare v)).trans (show ownsTc c (slotM M h) fullShare v
    ⊢ iprop(∃ f, ⌜(slotM M h).view.read (Elt F) f = v⌝ ∗ (slotM M h).view.loc (c : Thread nD τ) ↦[(slotM M h).view.set]{fullShare} f) from .rfl)) $$ H
  icases H with ⟨%f, %hf, H⟩
  iapply (wp_store 𝒱₀ (c : Thread nD τ) none Set.univ (m := M) (r := slotR h) (w := w) (Mk := Finset.univ) (S := (slotM M h).view.set) (f := f)
    (Finset.Subset.refl _)) $$ H
  iintro H
  iapply Hk
  iapply (Entails.of_eq (owns_slot c M h fullShare w).symm)
  iapply (owns_of c (M := slotM M h) (f := (M.access (slotR h)).write (Elt F) f w Finset.univ) (View.read_write_univ _ _)) $$ H

end Steps

end Cert.KernelIdeal.Ring

end
-- ==== Proof.Frags.lean ====
/-
The body as a chain of stages, each over a column block: the program of each stage, given what runs
after it, and the kernel's body as the chain of them.
-/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.Sem

variable {F : FTy → Type} [FloatOps F]

/-! ## The evidence the operations carry -/

theorem slot_words (h : Fin 4) : (slotR h).WholeWords (EltTy.packing .bf16) := match h with
  | 0 => Facts₀.wordsbf16_S4x256x256_S1x256x256_0_0_0
  | 1 => Facts₀.wordsbf16_S4x256x256_S1x256x256_1_0_0
  | 2 => Facts₀.wordsbf16_S4x256x256_S1x256x256_2_0_0
  | 3 => Facts₀.wordsbf16_S4x256x256_S1x256x256_3_0_0
theorem slot_packed (h : Fin 4) : (slotR h).PackedRows (EltTy.packing .bf16) := match h with
  | 0 => Facts₀.packedbf16_S4x256x256_S1x256x256_0_0_0
  | 1 => Facts₀.packedbf16_S4x256x256_S1x256x256_1_0_0
  | 2 => Facts₀.packedbf16_S4x256x256_S1x256x256_2_0_0
  | 3 => Facts₀.packedbf16_S4x256x256_S1x256x256_3_0_0

theorem slot_wordExact {M : Memref sig .tc .vmem S4x256x256 .bf16} (hM : M.IsWhole) (h : Fin 4) : (slot M h).view.WordExact :=
  (hM.wordExact_slice rfl _ (slot_words h)).reshape _ _
theorem slot_stores {M : Memref sig .tc .vmem S4x256x256 .bf16} (hM : M.IsWhole) (h : Fin 4) : (M.access (slotR h)).Stores Finset.univ :=
  View.stores_vmem Facts₀.h_S1x256x256 (hM.storeExact_slice rfl _ (slot_packed h)) (fun _ => rfl)

abbrev whole (b : Ref sig .tc) : (Memref.whole b).IsWhole := Memref.isWhole_whole b

/-- Where a 256 × 256 piece of the result starts, where 256 rows of the first argument start. -/
abbrev InP (off : Fin 2 → ℕ) : Prop := ∀ a, off a + S256x256.size a ≤ S1024x1024.size a
abbrev InR (off : Fin 2 → ℕ) : Prop := ∀ a, off a + S256x512.size a ≤ S1024x512.size a
abbrev pieceAt (off : Fin 2 → ℕ) (i : InP off) : Memref sig .tc .hbm S256x256 .bf16 :=
  mO.slice (Rect.unit (s := S1024x1024) off S256x256.size i) (fun _ => rfl)
abbrev rowsAt (off : Fin 2 → ℕ) (i : InR off) : Rect S1024x512 := Rect.unit (s := S1024x512) off S256x512.size i

theorem words_pieceAt {off : Fin 2 → ℕ} {i : InP off}
    (hw : (Rect.unit (s := S1024x1024) off S256x256.size i).WholeWords (EltTy.packing .bf16)) : (pieceAt off i).view.WordExact :=
  (whole main_v1).wordExact_slice rfl _ hw

/-! ## The operations -/

abbrev waitP (s : DmaSem sig) {sp sp' : Space} {sh sh' : Shape} {e e' : EltTy} (src : Memref sig .tc sp sh e) (dst : Memref sig .tc sp' sh' e')
    (hs : src.view.WordExact) (hd : dst.view.WordExact) (k : Pg F) : Pg F :=
  .op (TpuEff.waitDma2 (p := (Proc.tc : Proc τ)) s src dst hs hd) fun _ => k
abbrev copyP (s : DmaSem sig) {sp sp' : Space} {sh : Shape} {e : EltTy} (src : Memref sig .tc sp sh e) (dst : Memref sig .tc sp' sh e)
    (hs : src.view.WordExact) (hd : dst.view.WordExact)
    (hsem : DmaTarget.Typed sp (.dma s) (DmaTarget.here (nD := nD) (p := (Proc.tc : Proc τ)) dst)) (k : Pg F) : Pg F :=
  .op (TpuEff.enqueueDma (p := (Proc.tc : Proc τ)) src (.here dst) (.dma s) hs hd hsem) fun _ => k
abbrev sendP (n : Dev nD) (sS sR : DmaSem sig) {sp sp' : Space} {sh : Shape} {e : EltTy} (src : Memref sig .tc sp sh e) (dst : Memref sig .tc sp' sh e)
    (hsc : dst.view.ref.isScScratch = false) (hs : src.view.WordExact) (hd : dst.view.WordExact)
    (hsem : DmaTarget.Typed sp (.dma sR) (DmaTarget.remote (p := (Proc.tc : Proc τ)) (n : Thread nD τ) dst (.dma sS) hsc)) (k : Pg F) : Pg F :=
  .op (TpuEff.enqueueDma (p := (Proc.tc : Proc τ)) src (.remote (n : Thread nD τ) dst (.dma sS) hsc) (.dma sR) hs hd hsem) fun _ => k
abbrev putP (M : Memref sig .tc .vmem S4x256x256 .bf16) (hM : M.IsWhole) (h : Fin 4) (w : S1x256x256.Idx → Elt F .bf16) (k : Pg F) : Pg F :=
  .op (.load M (slotR h : LoadRect S4x256x256) (View.loadsAt_vmem Facts₀.h_S1x256x256)) fun _ =>
  .op (.store M (slotR h) w Finset.univ (slot_stores hM h) (.inl rfl)) fun _ => k
abbrev getP (M : Memref sig .tc .vmem S4x256x256 .bf16) (h : Fin 4) (k : (S1x256x256.Idx → Elt F .bf16) → Pg F) : Pg F :=
  .op (.load M (slotR h : LoadRect S4x256x256) (View.loadsAt_vmem Facts₀.h_S1x256x256)) k
abbrev rowsP (off : Fin 2 → ℕ) (i : InR off) (k : (S256x512.Idx → Elt F .bf16) → Pg F) : Pg F :=
  .op (.load vH (rowsAt off i : LoadRect S1024x512) (View.loadsAt_vmem Facts₀.h_S256x512)) k

/-- A send of a slot to the same slot of another buffer. -/
abbrev sendSlot (n : Dev nD) (sS sR : DmaSem sig) (X Y : Memref sig .tc .vmem S4x256x256 .bf16) (hX : X.IsWhole) (hY : Y.IsWhole)
    (hsc : ∀ h, (slot Y h).view.ref.isScScratch = false) (h : Fin 4) (k : Pg F) : Pg F :=
  sendP n sS sR (slot X h) (slot Y h) (hsc h) (slot_wordExact hX h) (slot_wordExact hY h) ⟨⟨rfl, Or.inl rfl⟩, trivial⟩ k
/-! ## The stages -/

/-- The copy of column block `h` of the second argument, -/
abbrev copyIn (h : Fin 4) (k : Pg F) : Pg F :=
  copyP (di h.succ) (chunkA h) (chunkV h) (View.wordExact_bits rfl) (View.wordExact_bits rfl) ⟨Or.inl rfl, trivial⟩ k

abbrev allA : Rect S1024x512 := Rect.unit (s := S1024x512) ![0, 0] S1024x512.size Facts₀.inb_S1024x512_S1024x512_0_0

/-- the start: the copies of the arguments, the barrier with both neighbours, the first argument rounded, -/
def startP (nl nr : Dev nD) (k : Pg F) : Pg F :=
  copyP (di 0) mA vA (whole main_arg0).wordExact (whole cc0_scratch0).wordExact ⟨Or.inl rfl, trivial⟩ <|
  copyIn 0 <| copyIn 1 <| copyIn 2 <| copyIn 3 <|
  .op (.semSignal (nl, Proc.tc) barS (1#32).toInt) fun _ =>
  .op (.semSignal (nr, Proc.tc) barS (1#32).toInt) fun _ =>
  .op (.semWait barS (2#32).toInt) fun _ =>
  waitP (di 0) mA vA (whole main_arg0).wordExact (whole cc0_scratch0).wordExact <|
  .op (.load vA (allA : LoadRect S1024x512) (View.loadsAt_vmem Facts₀.h_S1024x512)) fun v =>
  .op (.load vH (allA : LoadRect S1024x512) (View.loadsAt_vmem Facts₀.h_S1024x512)) fun _ =>
  .op (.store vH allA (k0_pay1 v) Finset.univ
    (View.stores_vmem Facts₀.h_S1024x512 ((whole cc0_scratch2).storeExact_slice rfl _ Facts₀.packedbf16_S1024x512_S1024x512_0_0) (fun _ => rfl)) (.inl rfl)) fun _ => k

/-- the products of a column block, and the two sends of those for the device across and the right neighbour, -/
def chunkP (h : Fin 4) (nl nr : Dev nD) (o2 o1 o3 o0 : Fin 2 → ℕ) (i2 : InR o2) (i1 : InR o1) (i3 : InR o3) (i0 : InR o0)
    (k : FVec F S256x256 .f32 → FVec F S256x256 .f32 → Pg F) : Pg F :=
  waitP (di h.succ) (chunkA h) (chunkV h) (View.wordExact_bits rfl) (View.wordExact_bits rfl) <|
  .op (.load vB (chunkR h : LoadRect S512x1024) (View.loadsAt_vmem Facts₀.h_S512x256)) fun v =>
  rowsP o2 i2 fun a =>
  putP xDf (whole _) h (k0_pay3 v a) <|
  sendSlot nl (kd 0 h) (kd 1 h) xDf yDf (whole _) (whole _) (fun _ => rfl) h <|
  rowsP o1 i1 fun b =>
  putP xDi (whole _) h (k0_pay4 (k0_pay2 v) b) <|
  sendSlot nr (kd 2 h) (kd 3 h) xDi yDi (whole _) (whole _) (fun _ => rfl) h <|
  rowsP o3 i3 fun e =>
  rowsP o0 i0 fun f => k (k0_pay5 (k0_pay2 v) e) (k0_pay6 (k0_pay2 v) f)

/-- the share received from the right added to that for the left neighbour and sent on, -/
def combP (h : Fin 4) (nl : Dev nD) (x : FVec F S256x256 .f32) (k : Pg F) : Pg F :=
  waitP (kd 1 h) (slot xDf h) (slot yDf h) (slot_wordExact (whole _) h) (slot_wordExact (whole _) h) <|
  getP yDf h fun v =>
  putP xCo (whole _) h (k0_pay22 x v) <|
  sendSlot nl (kd 4 h) (kd 5 h) xCo yCo (whole _) (whole _) (fun _ => rfl) h k

/-- the piece finished from both shares received, kept, and sent both ways, -/
def agP (h : Fin 4) (nl nr : Dev nD) (off : Fin 2 → ℕ) (i : InP off) (hw : (pieceAt off i).view.WordExact) (x : FVec F S256x256 .f32) (k : Pg F) : Pg F :=
  waitP (kd 5 h) (slot xCo h) (slot yCo h) (slot_wordExact (whole _) h) (slot_wordExact (whole _) h) <|
  waitP (kd 3 h) (slot xDi h) (slot yDi h) (slot_wordExact (whole _) h) (slot_wordExact (whole _) h) <|
  getP yCo h fun v =>
  getP yDi h fun w =>
  putP vG (whole _) h (k0_pay27 x v w) <|
  copyP (kd 12 h) (slot vG h) (pieceAt off i) (slot_wordExact (whole _) h) hw ⟨Or.inl rfl, trivial⟩ <|
  sendP nr (kd 6 h) (kd 7 h) (slot vG h) (pieceAt off i) rfl (slot_wordExact (whole _) h) hw ⟨⟨rfl, Or.inl rfl⟩, trivial⟩ <|
  sendP nl (kd 8 h) (kd 9 h) (slot vG h) (pieceAt off i) rfl (slot_wordExact (whole _) h) hw ⟨⟨rfl, Or.inl rfl⟩, trivial⟩ k

/-- the piece received from the left passed on, -/
def fwdP (h : Fin 4) (nr : Dev nD) (off : Fin 2 → ℕ) (i : InP off) (hw : (pieceAt off i).view.WordExact) (k : Pg F) : Pg F :=
  waitP (kd 7 h) (slot vG h) (pieceAt off i) (slot_wordExact (whole _) h) hw <|
  sendP nr (kd 10 h) (kd 11 h) (pieceAt off i) (pieceAt off i) rfl hw hw ⟨⟨rfl, Or.inl rfl⟩, trivial⟩ k

/-- the two last pieces received, -/
def lateP (h : Fin 4) (o1 o2 : Fin 2 → ℕ) (i1 : InP o1) (i2 : InP o2) (h1 : (pieceAt o1 i1).view.WordExact) (h2 : (pieceAt o2 i2).view.WordExact)
    (k : Pg F) : Pg F :=
  waitP (kd 9 h) (slot vG h) (pieceAt o1 i1) (slot_wordExact (whole _) h) h1 <|
  waitP (kd 11 h) (slot vG h) (pieceAt o2 i2) (slot_wordExact (whole _) h) h2 k

/-- the piece kept in place, -/
def ownP (h : Fin 4) (off : Fin 2 → ℕ) (i : InP off) (hw : (pieceAt off i).view.WordExact) (k : Pg F) : Pg F :=
  waitP (kd 12 h) (slot vG h) (pieceAt off i) (slot_wordExact (whole _) h) hw k

/-- and every send of the column block done. -/
def drainP (h : Fin 4) (o0 o3 : Fin 2 → ℕ) (i0 : InP o0) (i3 : InP o3) (h0 : (pieceAt o0 i0).view.WordExact) (h3 : (pieceAt o3 i3).view.WordExact)
    (k : Pg F) : Pg F :=
  waitP (kd 0 h) (slot yDf h) (slot xDf h) (slot_wordExact (whole _) h) (slot_wordExact (whole _) h) <|
  waitP (kd 2 h) (slot yDi h) (slot xDi h) (slot_wordExact (whole _) h) (slot_wordExact (whole _) h) <|
  waitP (kd 4 h) (slot yCo h) (slot xCo h) (slot_wordExact (whole _) h) (slot_wordExact (whole _) h) <|
  waitP (kd 6 h) (pieceAt o0 i0) (slot vG h) h0 (slot_wordExact (whole _) h) <|
  waitP (kd 8 h) (pieceAt o0 i0) (slot vG h) h0 (slot_wordExact (whole _) h) <|
  waitP (kd 10 h) (pieceAt o3 i3) (pieceAt o3 i3) h3 h3 k

/-! ## The chain -/

section Chain
variable (d : Dev nD)

abbrev chunkD (h : Fin 4) (nl nr : Dev nD) (k : FVec F S256x256 .f32 → FVec F S256x256 .f32 → Pg F) : Pg F :=
  chunkP h nl nr (k0_off1 d 2#32) (k0_off1 d 1#32) (k0_off2 d) (k0_off3 d)
    (Facts₀.k0_off1_inb d 1) (Facts₀.k0_off1_inb d 0) (Facts₀.k0_off2_inb d) (Facts₀.k0_off3_inb d) k

/-- The stages after the products, given each column block's shares for the left neighbour and for itself. -/
def tailP (x0 y0 x1 y1 x2 y2 x3 y3 : FVec F S256x256 .f32) : Pg F :=
  combP 0 ⟨k0_dev11 d, Facts₀.k0_dev11_lt d⟩ x0 <|
  combP 1 ⟨k0_dev12 d, Facts₀.k0_dev12_lt d⟩ x1 <|
  combP 2 ⟨k0_dev13 d, Facts₀.k0_dev13_lt d⟩ x2 <|
  combP 3 ⟨k0_dev14 d, Facts₀.k0_dev14_lt d⟩ x3 <|
  agP 0 ⟨k0_dev16 d, Facts₀.k0_dev16_lt d⟩ ⟨k0_dev15 d, Facts₀.k0_dev15_lt d⟩ (k0_off4 d) (Facts₀.k0_off4_inb d) (words_pieceAt (Facts₀.k0_off4_wordsbf16 d)) y0 <|
  agP 1 ⟨k0_dev18 d, Facts₀.k0_dev18_lt d⟩ ⟨k0_dev17 d, Facts₀.k0_dev17_lt d⟩ (k0_off5 d) (Facts₀.k0_off5_inb d) (words_pieceAt (Facts₀.k0_off5_wordsbf16 d)) y1 <|
  agP 2 ⟨k0_dev20 d, Facts₀.k0_dev20_lt d⟩ ⟨k0_dev19 d, Facts₀.k0_dev19_lt d⟩ (k0_off6 d) (Facts₀.k0_off6_inb d) (words_pieceAt (Facts₀.k0_off6_wordsbf16 d)) y2 <|
  agP 3 ⟨k0_dev22 d, Facts₀.k0_dev22_lt d⟩ ⟨k0_dev21 d, Facts₀.k0_dev21_lt d⟩ (k0_off7 d) (Facts₀.k0_off7_inb d) (words_pieceAt (Facts₀.k0_off7_wordsbf16 d)) y3 <|
  fwdP 0 ⟨k0_dev23 d, Facts₀.k0_dev23_lt d⟩ (k0_off8 d) (Facts₀.k0_off8_inb d) (words_pieceAt (Facts₀.k0_off8_wordsbf16 d)) <|
  fwdP 1 ⟨k0_dev24 d, Facts₀.k0_dev24_lt d⟩ (k0_off9 d) (Facts₀.k0_off9_inb d) (words_pieceAt (Facts₀.k0_off9_wordsbf16 d)) <|
  fwdP 2 ⟨k0_dev25 d, Facts₀.k0_dev25_lt d⟩ (k0_off10 d) (Facts₀.k0_off10_inb d) (words_pieceAt (Facts₀.k0_off10_wordsbf16 d)) <|
  fwdP 3 ⟨k0_dev26 d, Facts₀.k0_dev26_lt d⟩ (k0_off11 d) (Facts₀.k0_off11_inb d) (words_pieceAt (Facts₀.k0_off11_wordsbf16 d)) <|
  lateP 0 (k0_off12 d 1#32) (k0_off12 d 2#32) (Facts₀.k0_off12_inb d 0) (Facts₀.k0_off12_inb d 1)
    (words_pieceAt (Facts₀.k0_off12_wordsbf16 d 0)) (words_pieceAt (Facts₀.k0_off12_wordsbf16 d 1)) <|
  lateP 1 (k0_off13 d 1#32) (k0_off13 d 2#32) (Facts₀.k0_off13_inb d 0) (Facts₀.k0_off13_inb d 1)
    (words_pieceAt (Facts₀.k0_off13_wordsbf16 d 0)) (words_pieceAt (Facts₀.k0_off13_wordsbf16 d 1)) <|
  lateP 2 (k0_off14 d 1#32) (k0_off14 d 2#32) (Facts₀.k0_off14_inb d 0) (Facts₀.k0_off14_inb d 1)
    (words_pieceAt (Facts₀.k0_off14_wordsbf16 d 0)) (words_pieceAt (Facts₀.k0_off14_wordsbf16 d 1)) <|
  lateP 3 (k0_off15 d 1#32) (k0_off15 d 2#32) (Facts₀.k0_off15_inb d 0) (Facts₀.k0_off15_inb d 1)
    (words_pieceAt (Facts₀.k0_off15_wordsbf16 d 0)) (words_pieceAt (Facts₀.k0_off15_wordsbf16 d 1)) <|
  ownP 0 (k0_off4 d) (Facts₀.k0_off4_inb d) (words_pieceAt (Facts₀.k0_off4_wordsbf16 d)) <|
  ownP 1 (k0_off5 d) (Facts₀.k0_off5_inb d) (words_pieceAt (Facts₀.k0_off5_wordsbf16 d)) <|
  ownP 2 (k0_off6 d) (Facts₀.k0_off6_inb d) (words_pieceAt (Facts₀.k0_off6_wordsbf16 d)) <|
  ownP 3 (k0_off7 d) (Facts₀.k0_off7_inb d) (words_pieceAt (Facts₀.k0_off7_wordsbf16 d)) <|
  drainP 0 (k0_off4 d) (k0_off8 d) (Facts₀.k0_off4_inb d) (Facts₀.k0_off8_inb d) (words_pieceAt (Facts₀.k0_off4_wordsbf16 d)) (words_pieceAt (Facts₀.k0_off8_wordsbf16 d)) <|
  drainP 1 (k0_off5 d) (k0_off9 d) (Facts₀.k0_off5_inb d) (Facts₀.k0_off9_inb d) (words_pieceAt (Facts₀.k0_off5_wordsbf16 d)) (words_pieceAt (Facts₀.k0_off9_wordsbf16 d)) <|
  drainP 2 (k0_off6 d) (k0_off10 d) (Facts₀.k0_off6_inb d) (Facts₀.k0_off10_inb d) (words_pieceAt (Facts₀.k0_off6_wordsbf16 d)) (words_pieceAt (Facts₀.k0_off10_wordsbf16 d)) <|
  drainP 3 (k0_off7 d) (k0_off11 d) (Facts₀.k0_off7_inb d) (Facts₀.k0_off11_inb d) (words_pieceAt (Facts₀.k0_off7_wordsbf16 d)) (words_pieceAt (Facts₀.k0_off11_wordsbf16 d)) <|
  .ret ⟨⟩

def bodyP : Pg F :=
  startP ⟨k0_dev1 d, Facts₀.k0_dev1_lt d⟩ ⟨k0_dev2 d, Facts₀.k0_dev2_lt d⟩ <|
  chunkD d 0 ⟨k0_dev3 d, Facts₀.k0_dev3_lt d⟩ ⟨k0_dev4 d, Facts₀.k0_dev4_lt d⟩ fun x0 y0 =>
  chunkD d 1 ⟨k0_dev5 d, Facts₀.k0_dev5_lt d⟩ ⟨k0_dev6 d, Facts₀.k0_dev6_lt d⟩ fun x1 y1 =>
  chunkD d 2 ⟨k0_dev7 d, Facts₀.k0_dev7_lt d⟩ ⟨k0_dev8 d, Facts₀.k0_dev8_lt d⟩ fun x2 y2 =>
  chunkD d 3 ⟨k0_dev9 d, Facts₀.k0_dev9_lt d⟩ ⟨k0_dev10 d, Facts₀.k0_dev10_lt d⟩ fun x3 y3 =>
  tailP d x0 y0 x1 y1 x2 y2 x3 y3

end Chain

set_option maxRecDepth 65536 in
/-- The kernel's body reads its device and runs the chain. -/
theorem body_eq (t : Fin cfg0.N) : (bodyAt0 t : Pg F) = .op .deviceId fun d => bodyP d := by
  rfl

end Cert.KernelIdeal.Ring

end
-- ==== Proof.Phases.lean ====
/-
What each stage of a column block takes and leaves: the stages after the start.
-/
module

public import proofs.«01_k».proof.Proof.Frags

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### The cells' payloads, by kind -/

theorem give (c : Dev nD) (j : Fin 13) (h : Fin 4) (n : ℕ) (hn : j.val = n) : handed m c h n ⊢ landed m c (kd j h) := by rw [landed_kd, hn]
theorem take (c : Dev nD) (j : Fin 13) (h : Fin 4) (n : ℕ) (hn : j.val = n) : landed m c (kd j h) ⊢ handed m c h n := by rw [landed_kd, hn]
section Kinds
variable (c : Dev nD) (h : Fin 4)

theorem handed_0 : handed m c h 0 = ownsTc c (slot xDf h) fullShare (sq (dflow m c h)) := rfl
theorem handed_1 : handed m c h 1 = ownsTc c (slot yDf h) fullShare (sq (dflow m (nxt c) h)) := rfl
theorem handed_2 : handed m c h 2 = ownsTc c (slot xDi h) fullShare (sq (direct m c h)) := rfl
theorem handed_3 : handed m c h 3 = ownsTc c (slot yDi h) fullShare (sq (direct m (prv c) h)) := rfl
theorem handed_4 : handed m c h 4 = ownsTc c (slot xCo h) fullShare (sq (comb m c h)) := rfl
theorem handed_5 : handed m c h 5 = ownsTc c (slot yCo h) fullShare (sq (comb m (nxt c) h)) := rfl
theorem handed_6 : handed m c h 6 = ownsTc c (slot vG h) qR (sq (done m c h)) := rfl
theorem handed_7 : handed m c h 7 = ownsTc c (piece (prv c) h) fullShare (sq (done m (prv c) h)) := rfl
theorem handed_8 : handed m c h 8 = ownsTc c (slot vG h) qL (sq (done m c h)) := rfl
theorem handed_9 : handed m c h 9 = ownsTc c (piece (nxt c) h) fullShare (sq (done m (nxt c) h)) := rfl
theorem handed_10 : handed m c h 10 = ownsTc c (piece (prv c) h) fullShare (sq (done m (prv c) h)) := rfl
theorem handed_11 : handed m c h 11 = ownsTc c (piece (opp c) h) fullShare (sq (done m (opp c) h)) := rfl
theorem handed_12 : handed m c h 12 = iprop(ownsTc c (piece c h) fullShare (sq (done m c h)) ∗ ownsTc c (slot vG h) qOwn (sq (done m c h))) := rfl

/-- What a send hands over here, -/
theorem pay_0 : ownsTc c (slot xDf h) fullShare (sq (dflow m c h)) ⊢ landed m c (kd 0 h) := by
  rw [← handed_0]; exact give m c 0 h 0 rfl
theorem pay_2 : ownsTc c (slot xDi h) fullShare (sq (direct m c h)) ⊢ landed m c (kd 2 h) := by
  rw [← handed_2]; exact give m c 2 h 2 rfl
theorem pay_4 : ownsTc c (slot xCo h) fullShare (sq (comb m c h)) ⊢ landed m c (kd 4 h) := by
  rw [← handed_4]; exact give m c 4 h 4 rfl
theorem pay_6 : ownsTc c (slot vG h) qR (sq (done m c h)) ⊢ landed m c (kd 6 h) := by
  rw [← handed_6]; exact give m c 6 h 6 rfl
theorem pay_8 : ownsTc c (slot vG h) qL (sq (done m c h)) ⊢ landed m c (kd 8 h) := by
  rw [← handed_8]; exact give m c 8 h 8 rfl
theorem pay_10 : ownsTc c (piece (prv c) h) fullShare (sq (done m (prv c) h)) ⊢ landed m c (kd 10 h) := by
  rw [← handed_10]; exact give m c 10 h 10 rfl
theorem pay_12 : iprop(ownsTc c (piece c h) fullShare (sq (done m c h)) ∗ ownsTc c (slot vG h) qOwn (sq (done m c h))) ⊢ landed m c (kd 12 h) := by
  rw [← handed_12]; exact give m c 12 h 12 rfl

/-- and on the neighbour it goes to. -/
theorem pay_1 : ownsTc (prv c) (slot yDf h) fullShare (sq (dflow m c h)) ⊢ landed m (prv c) (kd 1 h) := by
  have H := give m (prv c) 1 h 1 rfl
  rwa [handed_1, nxt_prv] at H
theorem pay_3 : ownsTc (nxt c) (slot yDi h) fullShare (sq (direct m c h)) ⊢ landed m (nxt c) (kd 3 h) := by
  have H := give m (nxt c) 3 h 3 rfl
  rwa [handed_3, prv_nxt] at H
theorem pay_5 : ownsTc (prv c) (slot yCo h) fullShare (sq (comb m c h)) ⊢ landed m (prv c) (kd 5 h) := by
  have H := give m (prv c) 5 h 5 rfl
  rwa [handed_5, nxt_prv] at H
theorem pay_7 : ownsTc (nxt c) (piece c h) fullShare (sq (done m c h)) ⊢ landed m (nxt c) (kd 7 h) := by
  have H := give m (nxt c) 7 h 7 rfl
  rwa [handed_7, prv_nxt] at H
theorem pay_9 : ownsTc (prv c) (piece c h) fullShare (sq (done m c h)) ⊢ landed m (prv c) (kd 9 h) := by
  have H := give m (prv c) 9 h 9 rfl
  rwa [handed_9, nxt_prv] at H
theorem pay_11 : ownsTc (nxt c) (piece (prv c) h) fullShare (sq (done m (prv c) h)) ⊢ landed m (nxt c) (kd 11 h) := by
  have H := give m (nxt c) 11 h 11 rfl
  rwa [handed_11, opp_nxt] at H

end Kinds

theorem amt_in (h : Fin 4) : amt (di h.succ) = NB := by
  unfold amt di; rw [if_neg (by simp only [Fin.val_succ]; omega), if_pos (by simp only [Fin.val_succ]; omega)]

omit [FloatOps F] in
theorem open_anyS (d : Dev nD) (M : Memref sig .tc .vmem S4x256x256 .bf16) (h : Fin 4) :
    (anyS d M h : sProp 𝕄) ⊢ iprop(∃ X, ownsTc d (slot M h) fullShare X) := by unfold anyS; exact .rfl
omit [FloatOps F] in
theorem open_anyP (d q h : Fin 4) : (anyP d q h : sProp 𝕄) ⊢ iprop(∃ X, ownsTc (d : Dev nD) (piece q h) fullShare X) := by
  unfold anyP; exact .rfl

/-! ### What the stages take and leave -/

section Res
variable (c : Dev nD) (h : Fin 4)

def chunkPre : sProp 𝕄 := iprop(due c (di h.succ) ∗ pos c (di h.succ) ∗ anyS c xDf h ∗ anyS (prv c) yDf h ∗ anyS c xDi h ∗ anyS (nxt c) yDi h
  ∗ tok c (kd 0 h) ∗ tok c (kd 1 h) ∗ tok c (kd 2 h) ∗ tok c (kd 3 h))
def chunkPost : sProp 𝕄 := iprop(zero c (di h.succ) ∗ inB m c h ∗ due c (kd 0 h) ∗ due c (kd 2 h))

def combPre : sProp 𝕄 := iprop(due c (kd 1 h) ∗ pos c (kd 1 h) ∗ anyS c xCo h ∗ anyS (prv c) yCo h ∗ tok c (kd 4 h) ∗ tok c (kd 5 h))
def combPost : sProp 𝕄 := iprop(zero c (kd 1 h) ∗ handed m c h 1 ∗ due c (kd 4 h))

def agPre : sProp 𝕄 := iprop(due c (kd 5 h) ∗ pos c (kd 5 h) ∗ due c (kd 3 h) ∗ pos c (kd 3 h) ∗ anyS c vG h
  ∗ anyP c c h ∗ anyP (nxt c) c h ∗ anyP (prv c) c h ∗ tok c (kd 12 h) ∗ tok c (kd 6 h) ∗ tok c (kd 7 h) ∗ tok c (kd 8 h) ∗ tok c (kd 9 h))
def agPost : sProp 𝕄 := iprop(zero c (kd 5 h) ∗ zero c (kd 3 h) ∗ handed m c h 5 ∗ handed m c h 3
  ∗ due c (kd 12 h) ∗ due c (kd 6 h) ∗ due c (kd 8 h))

def fwdPre : sProp 𝕄 := iprop(due c (kd 7 h) ∗ pos c (kd 7 h) ∗ anyP (nxt c) (prv c) h ∗ tok c (kd 10 h) ∗ tok c (kd 11 h))
def fwdPost : sProp 𝕄 := iprop(zero c (kd 7 h) ∗ due c (kd 10 h))

def latePre : sProp 𝕄 := iprop(due c (kd 9 h) ∗ pos c (kd 9 h) ∗ due c (kd 11 h) ∗ pos c (kd 11 h))
def latePost : sProp 𝕄 := iprop(zero c (kd 9 h) ∗ handed m c h 9 ∗ zero c (kd 11 h) ∗ handed m c h 11)

def ownPost : sProp 𝕄 := iprop(zero c (kd 12 h) ∗ handed m c h 12)

def drainPos : sProp 𝕄 := iprop(pos c (kd 0 h) ∗ pos c (kd 2 h) ∗ pos c (kd 4 h) ∗ pos c (kd 6 h) ∗ pos c (kd 8 h) ∗ pos c (kd 10 h))
def drainDue : sProp 𝕄 := iprop(due c (kd 0 h) ∗ due c (kd 2 h) ∗ due c (kd 4 h) ∗ due c (kd 6 h) ∗ due c (kd 8 h) ∗ due c (kd 10 h))
def drainPost : sProp 𝕄 := iprop((zero c (kd 0 h) ∗ zero c (kd 2 h) ∗ zero c (kd 4 h) ∗ zero c (kd 6 h) ∗ zero c (kd 8 h) ∗ zero c (kd 10 h))
  ∗ handed m c h 0 ∗ handed m c h 2 ∗ handed m c h 4 ∗ handed m c h 6 ∗ handed m c h 8 ∗ handed m c h 10)

end Res

/-! ### The stages -/

section Stages
variable (K : Dev nD × Option (DmaSem sig) → ℕ) (c : Dev nD) (h : Fin 4)

theorem chunk_stage {nl nr : Dev nD} (hnl : nl = prv c) (hnr : nr = nxt c) {o2 o1 o3 o0 : Fin 2 → ℕ} {i2 : InR o2} {i1 : InR o1} {i3 : InR o3} {i0 : InR o0}
    (h2 : o2 = ![256 * (opp c).val, 0]) (h1 : o1 = ![256 * (nxt c).val, 0]) (h3 : o3 = ![256 * (prv c).val, 0]) (h0 : o0 = ![256 * c.val, 0])
    (l : List (DmaSem sig)) (hl : ∀ s' ∈ kd 1 h :: kd 3 h :: l, level (.dma (di h.succ)) < level (.dma s'))
    {k : FVec F S256x256 .f32 → FVec F S256x256 .f32 → Pg F} {Q : PUnit → sProp 𝕄} :
    iprop(records m K ∗ ownsTc c vH fullShare (half m c) ∗ owesAny c (owed c (kd 1 h :: kd 3 h :: l)) ∗ chunkPre c h)
      ⊢ iprop(((ownsTc c vH fullShare (half m c) ∗ owesAny c (owed c l) ∗ chunkPost m c h) -∗ WP c (k (forLeft m c h) (forSelf m c h)) Q)
          -∗ WP c (chunkP h nl nr o2 o1 o3 o0 i2 i1 i3 i0 k) Q) := by
  subst hnl hnr h2 h1 h3 h0
  unfold chunkPre chunkPost chunkP
  iintro ⟨#HR, Hh, HO, Hdue, Hpos, HxDf, HyDf, HxDi, HyDi, Ht0, Ht1, Ht2, Ht3⟩ Hk
  iapply (wait_step m K c (di h.succ) _ ((amt_in h).symm ▸ rfl) hl) $$ [Hdue HO Hpos]
  · isplitr; · iexact HR
    isplitl [Hdue]; · iexact Hdue
    isplitl [HO] <;> iassumption
  iintro ⟨HO, Hz, Hin⟩
  ihave Hin := (Entails.of_eq (landed_in m c h)) $$ Hin
  unfold inB
  icases Hin with ⟨HV, HA⟩
  iapply (load_part c (M := vB) (r := chunkR h) (fun _ => rfl)) $$ HV; iintro HV
  iapply (load_rect c (M := vH) (r := rowsR (opp c))) $$ Hh; iintro Hh
  iapply (put_slot c (M := xDf) (h := h) (w := dflow m c h)) $$ HxDf; iintro HxDf
  iapply (send_step m K c (prv c) (kd 0 h) (kd 1 h) fullShare (sq (dflow m c h)) (kd 3 h :: l)
      (tgt_left 1 (by decide) h c).symm (tgt_self 0 (by decide) h c) (amt_kd 0 h) (amt_kd 1 h) (by rfl)
      (pay_0 m c h) (pay_1 m c h)) $$ [HxDf HyDf HO Ht0 Ht1]
  · isplitr; · iexact HR
    isplitl [HxDf]; · iexact HxDf
    isplitl [HyDf]; · iapply (open_anyS _ _ _); iexact HyDf
    isplitl [HO]; · iexact HO
    isplitl [Ht0] <;> iassumption
  iintro ⟨Hd0, HO⟩
  iapply (load_rect c (M := vH) (r := rowsR (nxt c))) $$ Hh; iintro Hh
  iapply (put_slot c (M := xDi) (h := h) (w := direct m c h)) $$ HxDi; iintro HxDi
  iapply (send_step m K c (nxt c) (kd 2 h) (kd 3 h) fullShare (sq (direct m c h)) l
      (tgt_right 3 (by decide) h c).symm (tgt_self 2 (by decide) h c) (amt_kd 2 h) (amt_kd 3 h) (by rfl)
      (pay_2 m c h) (pay_3 m c h)) $$ [HxDi HyDi HO Ht2 Ht3]
  · isplitr; · iexact HR
    isplitl [HxDi]; · iexact HxDi
    isplitl [HyDi]; · iapply (open_anyS _ _ _); iexact HyDi
    isplitl [HO]; · iexact HO
    isplitl [Ht2] <;> iassumption
  iintro ⟨Hd2, HO⟩
  iapply (load_rect c (M := vH) (r := rowsR (prv c))) $$ Hh; iintro Hh
  iapply (load_rect c (M := vH) (r := rowsR c)) $$ Hh; iintro Hh
  iapply Hk
  isplitl [Hh]; · iexact Hh
  isplitl [HO]; · iexact HO
  isplitl [Hz]; · iexact Hz
  isplitl [HV HA]; · isplitl [HV] <;> iassumption
  isplitl [Hd0] <;> iassumption

theorem comb_stage {nl : Dev nD} (hnl : nl = prv c) (l : List (DmaSem sig)) (hl : ∀ s' ∈ kd 5 h :: l, level (.dma (kd 1 h)) < level (.dma s'))
    {k : Pg F} {Q : PUnit → sProp 𝕄} :
    iprop(records m K ∗ owesAny c (owed c (kd 5 h :: l)) ∗ combPre c h)
      ⊢ iprop(((owesAny c (owed c l) ∗ combPost m c h) -∗ WP c k Q) -∗ WP c (combP h nl (forLeft m c h) k) Q) := by
  subst hnl
  unfold combPre combPost combP
  rw [handed_1]
  iintro ⟨#HR, HO, Hdue, Hpos, Hx, Hy, Ht4, Ht5⟩ Hk
  iapply (wait_step m K c (kd 1 h) _ ((amt_kd 1 h).symm ▸ rfl) hl) $$ [Hdue HO Hpos]
  · isplitr; · iexact HR
    isplitl [Hdue]; · iexact Hdue
    isplitl [HO] <;> iassumption
  iintro ⟨HO, Hz, Hin⟩
  ihave Hin := ((take m c 1 h 1 rfl).trans (Entails.of_eq (handed_1 m c h))) $$ Hin
  iapply (load_slot c (M := yDf) (h := h) (v := dflow m (nxt c) h)) $$ Hin; iintro Hin
  iapply (put_slot c (M := xCo) (h := h) (w := comb m c h)) $$ Hx; iintro Hx
  iapply (send_step m K c (prv c) (kd 4 h) (kd 5 h) fullShare (sq (comb m c h)) l
      (tgt_left 5 (by decide) h c).symm (tgt_self 4 (by decide) h c) (amt_kd 4 h) (amt_kd 5 h) (by rfl)
      (pay_4 m c h) (pay_5 m c h)) $$ [Hx Hy HO Ht4 Ht5]
  · isplitr; · iexact HR
    isplitl [Hx]; · iexact Hx
    isplitl [Hy]; · iapply (open_anyS _ _ _); iexact Hy
    isplitl [HO]; · iexact HO
    isplitl [Ht4] <;> iassumption
  iintro ⟨Hd, HO⟩
  iapply Hk
  isplitl [HO]; · iexact HO
  isplitl [Hz]; · iexact Hz
  isplitl [Hin] <;> iassumption

theorem ag_stage {nl nr : Dev nD} (hnl : nl = prv c) (hnr : nr = nxt c) {off : Fin 2 → ℕ} {i : InP off} {hw : (pieceAt off i).view.WordExact}
    (ho : off = ![256 * c.val, 256 * h.val]) (l : List (DmaSem sig))
    (hl : ∀ s' ∈ kd 7 h :: kd 9 h :: l, level (.dma (kd 5 h)) < level (.dma s')) (hl' : ∀ s' ∈ kd 7 h :: kd 9 h :: l, level (.dma (kd 3 h)) < level (.dma s'))
    {k : Pg F} {Q : PUnit → sProp 𝕄} :
    iprop(records m K ∗ owesAny c (owed c (kd 7 h :: kd 9 h :: l)) ∗ agPre c h)
      ⊢ iprop(((owesAny c (owed c l) ∗ agPost m c h) -∗ WP c k Q) -∗ WP c (agP h nl nr off i hw (forSelf m c h) k) Q) := by
  subst hnl hnr ho
  unfold agPre agPost agP
  rw [handed_5, handed_3]
  iintro ⟨#HR, HO, Hdue5, Hpos5, Hdue3, Hpos3, Hg, HpO, HpR, HpL, Ht12, Ht6, Ht7, Ht8, Ht9⟩ Hk
  iapply (wait_step m K c (kd 5 h) _ ((amt_kd 5 h).symm ▸ rfl) hl) $$ [Hdue5 HO Hpos5]
  · isplitr; · iexact HR
    isplitl [Hdue5]; · iexact Hdue5
    isplitl [HO] <;> iassumption
  iintro ⟨HO, Hz5, Hin5⟩
  ihave Hin5 := ((take m c 5 h 5 rfl).trans (Entails.of_eq (handed_5 m c h))) $$ Hin5
  iapply (wait_step m K c (kd 3 h) _ ((amt_kd 3 h).symm ▸ rfl) hl') $$ [Hdue3 HO Hpos3]
  · isplitr; · iexact HR
    isplitl [Hdue3]; · iexact Hdue3
    isplitl [HO] <;> iassumption
  iintro ⟨HO, Hz3, Hin3⟩
  ihave Hin3 := ((take m c 3 h 3 rfl).trans (Entails.of_eq (handed_3 m c h))) $$ Hin3
  iapply (load_slot c (M := yCo) (h := h) (v := comb m (nxt c) h)) $$ Hin5; iintro Hin5
  iapply (load_slot c (M := yDi) (h := h) (v := direct m (prv c) h)) $$ Hin3; iintro Hin3
  iapply (put_slot c (M := vG) (h := h) (w := done m c h)) $$ Hg; iintro Hg
  ihave Hg := (owns_halves (c : Thread nD τ) (slot vG h) fullShare (sq (done m c h))).1 $$ Hg
  icases Hg with ⟨HgO, Hg⟩
  ihave Hg := (owns_halves (c : Thread nD τ) (slot vG h) (fullShare : PosShare TreeShare).right (sq (done m c h))).1 $$ Hg
  icases Hg with ⟨HgR, HgL⟩
  iapply (copy_step m K c (kd 12 h) (dst := piece c h) qOwn (sq (done m c h)) ((amt_kd 12 h).symm ▸ rfl) (tgt_self 12 (by decide) h c)
      (pay_12 m c h)) $$ [HgO HpO Ht12]
  · isplitr; · iexact HR
    isplitl [HgO]; · iexact HgO
    isplitl [HpO]; · iapply (open_anyP _ _ _); iexact HpO
    iexact Ht12
  iintro Hd12
  iapply (send_step m K c (nxt c) (kd 6 h) (kd 7 h) (dst := piece c h) qR (sq (done m c h)) (kd 9 h :: l)
      (tgt_right 7 (by decide) h c).symm (tgt_self 6 (by decide) h c) (amt_kd 6 h) (amt_kd 7 h) (by rfl)
      (pay_6 m c h) (pay_7 m c h)) $$ [HgR HpR HO Ht6 Ht7]
  · isplitr; · iexact HR
    isplitl [HgR]; · iexact HgR
    isplitl [HpR]; · iapply (open_anyP _ _ _); iexact HpR
    isplitl [HO]; · iexact HO
    isplitl [Ht6] <;> iassumption
  iintro ⟨Hd6, HO⟩
  iapply (send_step m K c (prv c) (kd 8 h) (kd 9 h) (dst := piece c h) qL (sq (done m c h)) l
      (tgt_left 9 (by decide) h c).symm (tgt_self 8 (by decide) h c) (amt_kd 8 h) (amt_kd 9 h) (by rfl)
      (pay_8 m c h) (pay_9 m c h)) $$ [HgL HpL HO Ht8 Ht9]
  · isplitr; · iexact HR
    isplitl [HgL]; · iexact HgL
    isplitl [HpL]; · iapply (open_anyP _ _ _); iexact HpL
    isplitl [HO]; · iexact HO
    isplitl [Ht8] <;> iassumption
  iintro ⟨Hd8, HO⟩
  iapply Hk
  isplitl [HO]; · iexact HO
  isplitl [Hz5]; · iexact Hz5
  isplitl [Hz3]; · iexact Hz3
  isplitl [Hin5]; · iexact Hin5
  isplitl [Hin3]; · iexact Hin3
  isplitl [Hd12]; · iexact Hd12
  isplitl [Hd6] <;> iassumption

theorem fwd_stage {nr : Dev nD} (hnr : nr = nxt c) {off : Fin 2 → ℕ} {i : InP off} {hw : (pieceAt off i).view.WordExact}
    (ho : off = ![256 * (prv c).val, 256 * h.val]) (l : List (DmaSem sig)) (hl : ∀ s' ∈ kd 11 h :: l, level (.dma (kd 7 h)) < level (.dma s'))
    {k : Pg F} {Q : PUnit → sProp 𝕄} :
    iprop(records m K ∗ owesAny c (owed c (kd 11 h :: l)) ∗ fwdPre c h)
      ⊢ iprop(((owesAny c (owed c l) ∗ fwdPost c h) -∗ WP c k Q) -∗ WP c (fwdP h nr off i hw k) Q) := by
  subst hnr ho
  unfold fwdPre fwdPost fwdP
  iintro ⟨#HR, HO, Hdue, Hpos, Hp, Ht10, Ht11⟩ Hk
  iapply (wait_step m K c (kd 7 h) _ ((amt_kd 7 h).symm ▸ rfl) hl) $$ [Hdue HO Hpos]
  · isplitr; · iexact HR
    isplitl [Hdue]; · iexact Hdue
    isplitl [HO] <;> iassumption
  iintro ⟨HO, Hz, Hin⟩
  ihave Hin := ((take m c 7 h 7 rfl).trans (Entails.of_eq (handed_7 m c h))) $$ Hin
  iapply (send_step m K c (nxt c) (kd 10 h) (kd 11 h) (src := piece (prv c) h) (dst := piece (prv c) h) fullShare (sq (done m (prv c) h)) l
      (tgt_right 11 (by decide) h c).symm (tgt_self 10 (by decide) h c) (amt_kd 10 h) (amt_kd 11 h) (by rfl)
      (pay_10 m c h) (pay_11 m c h)) $$ [Hin Hp HO Ht10 Ht11]
  · isplitr; · iexact HR
    isplitl [Hin]; · iexact Hin
    isplitl [Hp]; · iapply (open_anyP _ _ _); iexact Hp
    isplitl [HO]; · iexact HO
    isplitl [Ht10] <;> iassumption
  iintro ⟨Hd, HO⟩
  iapply Hk
  isplitl [HO]; · iexact HO
  isplitl [Hz] <;> iassumption

/-- A wait on a cell of kind `j`, nothing being owed. -/
theorem last_wait (j : Fin 13) (n : ℕ) (hn : j.val = n) {sp sp' : Space} {sh sh' : Shape} {e e' : EltTy} {src : Memref sig .tc sp sh e} {dst : Memref sig .tc sp' sh' e'}
    {hsrc : src.view.WordExact} {hdst : dst.view.WordExact} (hN : dst.view.dmaCredit = N) {k : Pg F} {Q : PUnit → sProp 𝕄} :
    iprop(records m K ∗ owesAny c 0 ∗ due c (kd j h) ∗ pos c (kd j h))
      ⊢ iprop(((owesAny c 0 ∗ zero c (kd j h) ∗ handed m c h n) -∗ WP c k Q) -∗ WP c (waitP (kd j h) src dst hsrc hdst k) Q) := by
  rw [show (0 : CellTallies nD τ sig Unit) = owed c [] from rfl]
  iintro ⟨#HR, HO, Hdue, Hpos⟩ Hk
  iapply (wait_step m K c (kd j h) [] (hN.trans (amt_kd j h).symm) (by simp)) $$ [Hdue HO Hpos]
  · isplitr; · iexact HR
    isplitl [Hdue]; · iexact Hdue
    isplitl [HO] <;> iassumption
  iintro ⟨HO, Hz, Hin⟩
  ihave Hin := (take m c j h n hn) $$ Hin
  iapply Hk
  isplitl [HO]; · iexact HO
  isplitl [Hz] <;> iassumption

theorem late_stage {o1 o2 : Fin 2 → ℕ} {i1 : InP o1} {i2 : InP o2} {h1 : (pieceAt o1 i1).view.WordExact} {h2 : (pieceAt o2 i2).view.WordExact}
    {k : Pg F} {Q : PUnit → sProp 𝕄} :
    iprop(records m K ∗ owesAny c 0 ∗ latePre c h)
      ⊢ iprop(((owesAny c 0 ∗ latePost m c h) -∗ WP c k Q) -∗ WP c (lateP h o1 o2 i1 i2 h1 h2 k) Q) := by
  unfold latePre latePost lateP
  iintro ⟨#HR, HO, Hd9, Hp9, Hd11, Hp11⟩ Hk
  iapply (last_wait m K c h 9 9 rfl (by rfl)) $$ [HO Hd9 Hp9]
  · isplitr; · iexact HR
    isplitl [HO]; · iexact HO
    isplitl [Hd9] <;> iassumption
  iintro ⟨HO, Hz9, Hin9⟩
  iapply (last_wait m K c h 11 11 rfl (by rfl)) $$ [HO Hd11 Hp11]
  · isplitr; · iexact HR
    isplitl [HO]; · iexact HO
    isplitl [Hd11] <;> iassumption
  iintro ⟨HO, Hz11, Hin11⟩
  iapply Hk
  isplitl [HO]; · iexact HO
  isplitl [Hz9]; · iexact Hz9
  isplitl [Hin9]; · iexact Hin9
  isplitl [Hz11] <;> iassumption

theorem own_stage {off : Fin 2 → ℕ} {i : InP off} {hw : (pieceAt off i).view.WordExact} {k : Pg F} {Q : PUnit → sProp 𝕄} :
    iprop(records m K ∗ owesAny c 0 ∗ due c (kd 12 h) ∗ pos c (kd 12 h))
      ⊢ iprop(((owesAny c 0 ∗ ownPost m c h) -∗ WP c k Q) -∗ WP c (ownP h off i hw k) Q) := by
  unfold ownPost ownP
  exact last_wait m K c h 12 12 rfl (by rfl)

theorem drain_stage {o0 o3 : Fin 2 → ℕ} {i0 : InP o0} {i3 : InP o3} {h0 : (pieceAt o0 i0).view.WordExact} {h3 : (pieceAt o3 i3).view.WordExact}
    {k : Pg F} {Q : PUnit → sProp 𝕄} :
    iprop(records m K ∗ owesAny c 0 ∗ drainDue c h ∗ drainPos c h)
      ⊢ iprop(((owesAny c 0 ∗ drainPost m c h) -∗ WP c k Q) -∗ WP c (drainP h o0 o3 i0 i3 h0 h3 k) Q) := by
  unfold drainDue drainPos drainPost drainP
  iintro ⟨#HR, HO, ⟨Hd0, Hd2, Hd4, Hd6, Hd8, Hd10⟩, Hp0, Hp2, Hp4, Hp6, Hp8, Hp10⟩ Hk
  iapply (last_wait m K c h 0 0 rfl (by rfl)) $$ [HO Hd0 Hp0]
  · isplitr; · iexact HR
    isplitl [HO]; · iexact HO
    isplitl [Hd0] <;> iassumption
  iintro ⟨HO, Hz0, Hin0⟩
  iapply (last_wait m K c h 2 2 rfl (by rfl)) $$ [HO Hd2 Hp2]
  · isplitr; · iexact HR
    isplitl [HO]; · iexact HO
    isplitl [Hd2] <;> iassumption
  iintro ⟨HO, Hz2, Hin2⟩
  iapply (last_wait m K c h 4 4 rfl (by rfl)) $$ [HO Hd4 Hp4]
  · isplitr; · iexact HR
    isplitl [HO]; · iexact HO
    isplitl [Hd4] <;> iassumption
  iintro ⟨HO, Hz4, Hin4⟩
  iapply (last_wait m K c h 6 6 rfl (by rfl)) $$ [HO Hd6 Hp6]
  · isplitr; · iexact HR
    isplitl [HO]; · iexact HO
    isplitl [Hd6] <;> iassumption
  iintro ⟨HO, Hz6, Hin6⟩
  iapply (last_wait m K c h 8 8 rfl (by rfl)) $$ [HO Hd8 Hp8]
  · isplitr; · iexact HR
    isplitl [HO]; · iexact HO
    isplitl [Hd8] <;> iassumption
  iintro ⟨HO, Hz8, Hin8⟩
  iapply (last_wait m K c h 10 10 rfl (by rfl)) $$ [HO Hd10 Hp10]
  · isplitr; · iexact HR
    isplitl [HO]; · iexact HO
    isplitl [Hd10] <;> iassumption
  iintro ⟨HO, Hz10, Hin10⟩
  iapply Hk
  isplitl [HO]; · iexact HO
  isplitl [Hz0 Hz2 Hz4 Hz6 Hz8 Hz10]
  · isplitl [Hz0]; · iexact Hz0
    isplitl [Hz2]; · iexact Hz2
    isplitl [Hz4]; · iexact Hz4
    isplitl [Hz6]; · iexact Hz6
    isplitl [Hz8] <;> iassumption
  isplitl [Hin0]; · iexact Hin0
  isplitl [Hin2]; · iexact Hin2
  isplitl [Hin4]; · iexact Hin4
  isplitl [Hin6]; · iexact Hin6
  isplitl [Hin8] <;> iassumption

end Stages

end Cert.KernelIdeal.Ring

end
-- ==== Proof.Rows.lean ====
/-
Each stage over the four column blocks in turn.
-/
module

public import proofs.«01_k».proof.Proof.Phases

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem four (P : Fin 4 → sProp 𝕄) : bigSep Finset.univ P = iprop(P 0 ∗ P 1 ∗ P 2 ∗ P 3) := by
  rw [bigSep_univ_eq_bigSepL [0, 1, 2, 3] (by decide) (by decide)]
  simp only [bigSepL_cons_cons, bigSepL_singleton]
  rfl

/-! ### Which devices and places the computed ones are -/

def dev_dflow (d : Dev nD) : Fin 4 → Dev nD
  | 0 => ⟨k0_dev3 d, Facts₀.k0_dev3_lt d⟩
  | 1 => ⟨k0_dev5 d, Facts₀.k0_dev5_lt d⟩
  | 2 => ⟨k0_dev7 d, Facts₀.k0_dev7_lt d⟩
  | 3 => ⟨k0_dev9 d, Facts₀.k0_dev9_lt d⟩
def dev_direct (d : Dev nD) : Fin 4 → Dev nD
  | 0 => ⟨k0_dev4 d, Facts₀.k0_dev4_lt d⟩
  | 1 => ⟨k0_dev6 d, Facts₀.k0_dev6_lt d⟩
  | 2 => ⟨k0_dev8 d, Facts₀.k0_dev8_lt d⟩
  | 3 => ⟨k0_dev10 d, Facts₀.k0_dev10_lt d⟩
def dev_comb (d : Dev nD) : Fin 4 → Dev nD
  | 0 => ⟨k0_dev11 d, Facts₀.k0_dev11_lt d⟩
  | 1 => ⟨k0_dev12 d, Facts₀.k0_dev12_lt d⟩
  | 2 => ⟨k0_dev13 d, Facts₀.k0_dev13_lt d⟩
  | 3 => ⟨k0_dev14 d, Facts₀.k0_dev14_lt d⟩
def dev_agr (d : Dev nD) : Fin 4 → Dev nD
  | 0 => ⟨k0_dev15 d, Facts₀.k0_dev15_lt d⟩
  | 1 => ⟨k0_dev17 d, Facts₀.k0_dev17_lt d⟩
  | 2 => ⟨k0_dev19 d, Facts₀.k0_dev19_lt d⟩
  | 3 => ⟨k0_dev21 d, Facts₀.k0_dev21_lt d⟩
def dev_agl (d : Dev nD) : Fin 4 → Dev nD
  | 0 => ⟨k0_dev16 d, Facts₀.k0_dev16_lt d⟩
  | 1 => ⟨k0_dev18 d, Facts₀.k0_dev18_lt d⟩
  | 2 => ⟨k0_dev20 d, Facts₀.k0_dev20_lt d⟩
  | 3 => ⟨k0_dev22 d, Facts₀.k0_dev22_lt d⟩
def dev_fwd (d : Dev nD) : Fin 4 → Dev nD
  | 0 => ⟨k0_dev23 d, Facts₀.k0_dev23_lt d⟩
  | 1 => ⟨k0_dev24 d, Facts₀.k0_dev24_lt d⟩
  | 2 => ⟨k0_dev25 d, Facts₀.k0_dev25_lt d⟩
  | 3 => ⟨k0_dev26 d, Facts₀.k0_dev26_lt d⟩
theorem dev_dflow_eq : ∀ (d : Dev nD) (h : Fin 4), dev_dflow d h = prv d := by decide +kernel
theorem dev_direct_eq : ∀ (d : Dev nD) (h : Fin 4), dev_direct d h = nxt d := by decide +kernel
theorem dev_comb_eq : ∀ (d : Dev nD) (h : Fin 4), dev_comb d h = prv d := by decide +kernel
theorem dev_agr_eq : ∀ (d : Dev nD) (h : Fin 4), dev_agr d h = nxt d := by decide +kernel
theorem dev_agl_eq : ∀ (d : Dev nD) (h : Fin 4), dev_agl d h = prv d := by decide +kernel
theorem dev_fwd_eq : ∀ (d : Dev nD) (h : Fin 4), dev_fwd d h = nxt d := by decide +kernel

def offOwn (d : Dev nD) : Fin 4 → Fin 2 → ℕ
  | 0 => k0_off4 d
  | 1 => k0_off5 d
  | 2 => k0_off6 d
  | 3 => k0_off7 d
theorem offOwn_eq : ∀ (d : Dev nD) (h : Fin 4), offOwn d h = ![256 * (id d).val, 256 * h.val] := by decide +kernel
theorem offOwn_in (d : Dev nD) : ∀ h : Fin 4, InP (offOwn d h)
  | 0 => Facts₀.k0_off4_inb d
  | 1 => Facts₀.k0_off5_inb d
  | 2 => Facts₀.k0_off6_inb d
  | 3 => Facts₀.k0_off7_inb d
theorem offOwn_words (d : Dev nD) : ∀ h : Fin 4, (pieceAt (offOwn d h) (offOwn_in d h)).view.WordExact
  | 0 => words_pieceAt (Facts₀.k0_off4_wordsbf16 d)
  | 1 => words_pieceAt (Facts₀.k0_off5_wordsbf16 d)
  | 2 => words_pieceAt (Facts₀.k0_off6_wordsbf16 d)
  | 3 => words_pieceAt (Facts₀.k0_off7_wordsbf16 d)
def offPrv (d : Dev nD) : Fin 4 → Fin 2 → ℕ
  | 0 => k0_off8 d
  | 1 => k0_off9 d
  | 2 => k0_off10 d
  | 3 => k0_off11 d
theorem offPrv_eq : ∀ (d : Dev nD) (h : Fin 4), offPrv d h = ![256 * (prv d).val, 256 * h.val] := by decide +kernel
theorem offPrv_in (d : Dev nD) : ∀ h : Fin 4, InP (offPrv d h)
  | 0 => Facts₀.k0_off8_inb d
  | 1 => Facts₀.k0_off9_inb d
  | 2 => Facts₀.k0_off10_inb d
  | 3 => Facts₀.k0_off11_inb d
theorem offPrv_words (d : Dev nD) : ∀ h : Fin 4, (pieceAt (offPrv d h) (offPrv_in d h)).view.WordExact
  | 0 => words_pieceAt (Facts₀.k0_off8_wordsbf16 d)
  | 1 => words_pieceAt (Facts₀.k0_off9_wordsbf16 d)
  | 2 => words_pieceAt (Facts₀.k0_off10_wordsbf16 d)
  | 3 => words_pieceAt (Facts₀.k0_off11_wordsbf16 d)

theorem dev_start : ∀ d : Dev nD, (⟨k0_dev1 d, Facts₀.k0_dev1_lt d⟩ : Dev nD) = prv d ∧ (⟨k0_dev2 d, Facts₀.k0_dev2_lt d⟩ : Dev nD) = nxt d := by
  decide +kernel
theorem off_rows : ∀ d : Dev nD, k0_off1 d 2#32 = ![256 * (opp d).val, 0] ∧ k0_off1 d 1#32 = ![256 * (nxt d).val, 0]
    ∧ k0_off2 d = ![256 * (prv d).val, 0] ∧ k0_off3 d = ![256 * d.val, 0] := by
  decide +kernel

/-! ### Four stages in a row -/

/-- A stage that, for every column block, takes what is owed one step on and `Pre` to `Post`, run for the four in turn. -/
theorem four_stages (c : Dev nD) (R : sProp 𝕄) [BI.Persistent R] (Ow : ℕ → sProp 𝕄) (Pre Post : Fin 4 → sProp 𝕄) (P : Fin 4 → Pg F → Pg F)
    {Q : PUnit → sProp 𝕄}
    (st : ∀ (h : Fin 4) (k : Pg F), iprop(R ∗ Ow h.val ∗ Pre h) ⊢ iprop(((Ow (h.val + 1) ∗ Post h) -∗ WP c k Q) -∗ WP c (P h k) Q)) (k : Pg F) :
    iprop(R ∗ Ow 0 ∗ bigSep Finset.univ Pre) ⊢ iprop(((Ow 4 ∗ bigSep Finset.univ Post) -∗ WP c k Q) -∗ WP c (P 0 (P 1 (P 2 (P 3 k)))) Q) := by
  have st' (h : Fin 4) (n n' : ℕ) (e : h.val = n) (e' : n + 1 = n') (k : Pg F) :
      iprop(R ∗ Ow n ∗ Pre h) ⊢ iprop(((Ow n' ∗ Post h) -∗ WP c k Q) -∗ WP c (P h k) Q) := by subst e e'; exact st h k
  rw [four, four]
  iintro ⟨#HR, HO, H0, H1, H2, H3⟩ Hk
  iapply (st' 0 0 1 rfl rfl _) $$ [HO H0]
  · isplitr; · iexact HR
    isplitl [HO] <;> iassumption
  iintro ⟨HO, H0⟩
  iapply (st' 1 1 2 rfl rfl _) $$ [HO H1]
  · isplitr; · iexact HR
    isplitl [HO] <;> iassumption
  iintro ⟨HO, H1⟩
  iapply (st' 2 2 3 rfl rfl _) $$ [HO H2]
  · isplitr; · iexact HR
    isplitl [HO] <;> iassumption
  iintro ⟨HO, H2⟩
  iapply (st' 3 3 4 rfl rfl _) $$ [HO H3]
  · isplitr; · iexact HR
    isplitl [HO] <;> iassumption
  iintro ⟨HO, H3⟩
  iapply Hk
  isplitl [HO]; · iexact HO
  isplitl [H0]; · iexact H0
  isplitl [H1]; · iexact H1
  isplitl [H2] <;> iassumption

section Rows
variable (K : Dev nD × Option (DmaSem sig) → ℕ) (c : Dev nD)

abbrev combs (d : Dev nD) (x : Fin 4 → FVec F S256x256 .f32) (k : Pg F) : Pg F :=
  combP 0 (dev_comb d 0) (x 0) <| combP 1 (dev_comb d 1) (x 1) <| combP 2 (dev_comb d 2) (x 2) <| combP 3 (dev_comb d 3) (x 3) k
abbrev agD (d : Dev nD) (y : Fin 4 → FVec F S256x256 .f32) (h : Fin 4) (k : Pg F) : Pg F :=
  agP h (dev_agl d h) (dev_agr d h) (offOwn d h) (offOwn_in d h) (offOwn_words d h) (y h) k
abbrev fwdD (d : Dev nD) (h : Fin 4) (k : Pg F) : Pg F :=
  fwdP h (dev_fwd d h) (offPrv d h) (offPrv_in d h) (offPrv_words d h) k
abbrev ownD (d : Dev nD) (h : Fin 4) (k : Pg F) : Pg F := ownP h (offOwn d h) (offOwn_in d h) (offOwn_words d h) k
abbrev drainD (d : Dev nD) (h : Fin 4) (k : Pg F) : Pg F :=
  drainP h (offOwn d h) (offPrv d h) (offOwn_in d h) (offPrv_in d h) (offOwn_words d h) (offPrv_words d h) k

/-- What device `c` still owes once `n` of its sends have started. -/
abbrev left (c : Dev nD) (n : ℕ) : sProp 𝕄 := owesAny c (owed c (sendOrder.drop n))

theorem combs_run (k : Pg F) {Q : PUnit → sProp 𝕄} :
    iprop(records m K ∗ left c 8 ∗ bigSep Finset.univ (combPre c))
      ⊢ iprop(((left c 12 ∗ bigSep Finset.univ (combPost m c)) -∗ WP c k Q) -∗ WP c (combs c (forLeft m c) k) Q) :=
  four_stages c (records m K) (fun n => left c (8 + n)) (combPre c) (combPost m c) (fun h k => combP h (dev_comb c h) (forLeft m c h) k)
    (fun h k => by
      have hl : sendOrder.drop (8 + h.val) = kd 5 h :: sendOrder.drop (8 + h.val + 1) := by revert h; decide
      have hlv : ∀ s' ∈ kd 5 h :: sendOrder.drop (8 + h.val + 1), level (.dma (kd 1 h)) < level (.dma s') := by revert h; decide
      dsimp only [left]
      rw [hl]
      exact comb_stage m K c h (dev_comb_eq c h) _ hlv) k

theorem ags_run (k : Pg F) {Q : PUnit → sProp 𝕄} :
    iprop(records m K ∗ left c 12 ∗ bigSep Finset.univ (agPre c))
      ⊢ iprop(((left c 20 ∗ bigSep Finset.univ (agPost m c)) -∗ WP c k Q)
          -∗ WP c (agD c (forSelf m c) 0 <| agD c (forSelf m c) 1 <| agD c (forSelf m c) 2 <| agD c (forSelf m c) 3 k) Q) :=
  four_stages c (records m K) (fun n => left c (12 + 2 * n)) (agPre c) (agPost m c) (fun h k => agD c (forSelf m c) h k)
    (fun h k => by
      have hl : sendOrder.drop (12 + 2 * h.val) = kd 7 h :: kd 9 h :: sendOrder.drop (12 + 2 * (h.val + 1)) := by revert h; decide
      have h5 : ∀ s' ∈ kd 7 h :: kd 9 h :: sendOrder.drop (12 + 2 * (h.val + 1)), level (.dma (kd 5 h)) < level (.dma s') := by revert h; decide
      have h3 : ∀ s' ∈ kd 7 h :: kd 9 h :: sendOrder.drop (12 + 2 * (h.val + 1)), level (.dma (kd 3 h)) < level (.dma s') := by revert h; decide
      dsimp only [left]
      rw [hl]
      exact ag_stage m K c h (dev_agl_eq c h) (dev_agr_eq c h) (offOwn_eq c h) _ h5 h3) k

theorem fwds_run (k : Pg F) {Q : PUnit → sProp 𝕄} :
    iprop(records m K ∗ left c 20 ∗ bigSep Finset.univ (fwdPre c))
      ⊢ iprop(((owesAny c 0 ∗ bigSep Finset.univ (fwdPost c)) -∗ WP c k Q) -∗ WP c (fwdD c 0 <| fwdD c 1 <| fwdD c 2 <| fwdD c 3 k) Q) :=
  four_stages c (records m K) (fun n => left c (20 + n)) (fwdPre c) (fwdPost c) (fun h k => fwdD c h k)
    (fun h k => by
      have hl : sendOrder.drop (20 + h.val) = kd 11 h :: sendOrder.drop (20 + h.val + 1) := by revert h; decide
      have hlv : ∀ s' ∈ kd 11 h :: sendOrder.drop (20 + h.val + 1), level (.dma (kd 7 h)) < level (.dma s') := by revert h; decide
      dsimp only [left]
      rw [hl]
      exact fwd_stage m K c h (dev_fwd_eq c h) (offPrv_eq c h) _ hlv) k

theorem lates_run {o1 o2 : Fin 4 → Fin 2 → ℕ} {i1 : ∀ h, InP (o1 h)} {i2 : ∀ h, InP (o2 h)}
    {h1 : ∀ h, (pieceAt (o1 h) (i1 h)).view.WordExact} {h2 : ∀ h, (pieceAt (o2 h) (i2 h)).view.WordExact} (k : Pg F) {Q : PUnit → sProp 𝕄} :
    iprop(records m K ∗ owesAny c 0 ∗ bigSep Finset.univ (latePre c))
      ⊢ iprop(((owesAny c 0 ∗ bigSep Finset.univ (latePost m c)) -∗ WP c k Q)
          -∗ WP c (lateP 0 (o1 0) (o2 0) (i1 0) (i2 0) (h1 0) (h2 0) <| lateP 1 (o1 1) (o2 1) (i1 1) (i2 1) (h1 1) (h2 1)
            <| lateP 2 (o1 2) (o2 2) (i1 2) (i2 2) (h1 2) (h2 2) <| lateP 3 (o1 3) (o2 3) (i1 3) (i2 3) (h1 3) (h2 3) k) Q) :=
  four_stages c (records m K) (fun _ => owesAny c 0) (latePre c) (latePost m c) (fun h k => lateP h (o1 h) (o2 h) (i1 h) (i2 h) (h1 h) (h2 h) k)
    (fun h k => late_stage m K c h) k

theorem owns_run (k : Pg F) {Q : PUnit → sProp 𝕄} :
    iprop(records m K ∗ owesAny c 0 ∗ bigSep Finset.univ fun h => iprop(due c (kd 12 h) ∗ pos c (kd 12 h)))
      ⊢ iprop(((owesAny c 0 ∗ bigSep Finset.univ (ownPost m c)) -∗ WP c k Q) -∗ WP c (ownD c 0 <| ownD c 1 <| ownD c 2 <| ownD c 3 k) Q) :=
  four_stages c (records m K) (fun _ => owesAny c 0) _ (ownPost m c) (fun h k => ownD c h k) (fun h k => own_stage m K c h) k

theorem drains_run (k : Pg F) {Q : PUnit → sProp 𝕄} :
    iprop(records m K ∗ owesAny c 0 ∗ bigSep Finset.univ fun h => iprop(drainDue c h ∗ drainPos c h))
      ⊢ iprop(((owesAny c 0 ∗ bigSep Finset.univ (drainPost m c)) -∗ WP c k Q) -∗ WP c (drainD c 0 <| drainD c 1 <| drainD c 2 <| drainD c 3 k) Q) :=
  four_stages c (records m K) (fun _ => owesAny c 0) _ (drainPost m c) (fun h k => drainD c h k) (fun h k => drain_stage m K c h) k

end Rows

end Cert.KernelIdeal.Ring

end
-- ==== Proof.Start.lean ====
/-
The body's run on a device: the start, the products of the four column blocks, and the rows of stages
after them; what it takes and what it leaves.
-/
module

public import proofs.«01_k».proof.Proof.Rows
public import Idealize.ShloMosaic.Lib.VecWindow

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### What the neighbours hand over, and what they are handed -/

omit [FloatOps F] in
theorem fromRight_prv (c : Dev nD) : (fromRight (prv c) : sProp 𝕄)
    = bigSep Finset.univ fun h : Fin 4 => iprop(anyS c yDi h ∗ anyP c (prv c) h ∗ anyP c (opp c) h) := by
  unfold fromRight; rw [nxt_prv, prv_prv]
omit [FloatOps F] in
theorem fromLeft_nxt (c : Dev nD) : (fromLeft (nxt c) : sProp 𝕄)
    = bigSep Finset.univ fun h : Fin 4 => iprop(anyS c yDf h ∗ anyS c yCo h ∗ anyP c (nxt c) h) := by
  unfold fromLeft; rw [prv_nxt]

theorem payload_true (c : Dev nD) : (ringRd m).payload (barCell c) 0 true = fromRight c := rfl
theorem payload_false (c : Dev nD) : (ringRd m).payload (barCell c) 0 false = fromLeft c := rfl

/-! ### The start -/

/-- What the start takes: both arguments, the buffers they are copied to, their cells, the buffer of the rounded
    argument, the barrier's cells, and what the two signals hand over; -/
def startPre (c : Dev nD) : sProp 𝕄 :=
  iprop((ownsTc c mA fullShare (argA m c) ∗ (∃ Y, ownsTc c vA fullShare Y) ∗ tok c (di 0) ∗ pos c (di 0))
    ∗ (bigSep Finset.univ fun h : Fin 4 => iprop(ownsTc c (chunkA h) fullShare (colsOf m c h) ∗ (∃ Y, ownsTc c (chunkV h) fullShare Y) ∗ tok c (di h.succ)))
    ∗ (∃ Y, ownsTc c vH fullShare Y)
    ∗ dutyTok ER (barCell (prv c)) 0 true ∗ dutyTok ER (barCell (nxt c)) 0 false
    ∗ cred (tallyAt (barCell c) () 2) ∗ atPos ER (barCell c) 0 ∅ 0
    ∗ fromRight (prv c) ∗ fromLeft (nxt c))
/-- and what it leaves: the argument rounded, the columns still to come, and the places on the two neighbours. -/
def startPost (c : Dev nD) : sProp 𝕄 :=
  iprop(ownsTc c vH fullShare (half m c) ∗ zero c (di 0) ∗ inA m c ∗ (bigSep Finset.univ fun h : Fin 4 => due c (di h.succ))
    ∗ semVal (barCell c) 0 ∗ fromLeft c ∗ fromRight c)

section Run
variable (K : Dev nD × Option (DmaSem sig) → ℕ) (c : Dev nD)

/-- The copy of a column block. -/
theorem copyIn_step (h : Fin 4) {k : Pg F} {Q : PUnit → sProp 𝕄} :
    iprop(records m K ∗ ownsTc c (chunkA h) fullShare (colsOf m c h) ∗ (∃ Y, ownsTc c (chunkV h) fullShare Y) ∗ tok c (di h.succ))
      ⊢ iprop((due c (di h.succ) -∗ WP c k Q) -∗ WP c (copyIn h k) Q) :=
  copy_step m K c (di h.succ) (k := fun _ => k) fullShare (colsOf m c h) ((show (chunkV h).view.dmaCredit = NB from rfl).trans (amt_in h).symm) (tgt_in h.succ c)
    (by rw [landed_in]; unfold inB; exact .rfl)

/-- The first argument rounded into its buffer. -/
theorem round_step {k : Pg F} {Q : PUnit → sProp 𝕄} {hl hl'} {hx} {hm} :
    iprop(ownsTc c vA fullShare (argA m c) ∗ (∃ Y, ownsTc c vH fullShare Y))
      ⊢ iprop(((ownsTc c vA fullShare (argA m c) ∗ ownsTc c vH fullShare (half m c)) -∗ WP c k Q)
          -∗ WP c (.op (.load vA (allA : LoadRect S1024x512) hl) fun v => .op (.load vH (allA : LoadRect S1024x512) hl') fun _ =>
              .op (.store vH allA (k0_pay1 v) Finset.univ hx hm) fun _ => k) Q) := by
  iintro ⟨HA, %Y, HH⟩ Hk
  iapply (load_rect c (M := vA) (r := allA)) $$ HA; iintro HA
  iapply (load_rect c (M := vH) (r := allA)) $$ HH; iintro HH
  ihave HH := (Entails.of_eq (owns_whole (c : Thread nD τ) cc0_scratch2 fullShare Y)) $$ HH
  iapply (wp_store 𝒱₀ (c : Thread nD τ) none Set.univ (m := vH) (r := allA) (Mk := Finset.univ) (Finset.subset_univ _)) $$ HH
  iintro HH
  iapply Hk
  isplitl [HA]; · iexact HA
  iapply (Entails.of_eq (owns_whole (c : Thread nD τ) cc0_scratch2 fullShare (half m c)).symm)
  iapply (Entails.of_eq (congrArg (fun X => (((c : Thread nD τ).loc cc0_scratch2) ↦{fullShare} X : sProp 𝕄))
    ((Memref.write_access_unit_zero_univ (Elt F) cc0_scratch2 (by decide) _ Y _).trans
      (congrArg k0_pay1 (funext fun i => congrArg (argA m c) (Rect.emb_unit_full _ i)))))) $$ HH

theorem start_stage {nl nr : Dev nD} (hnl : nl = prv c) (hnr : nr = nxt c) (k : Pg F) {Q : PUnit → sProp 𝕄} :
    iprop(records m K ∗ owesAny c (O₀ c) ∗ startPre m c)
      ⊢ iprop(((left c 0 ∗ startPost m c) -∗ WP c k Q) -∗ WP c (startP nl nr k) Q) := by
  subst hnl hnr
  unfold startPre startPost startP
  rw [four, four]
  iintro ⟨#HR, HO, ⟨HA, HvA, HtA, HpA⟩, ⟨H0, H1, H2, H3⟩, HH, HtL, HtR, HcB, HpB, HfR, HfL⟩ Hk
  iapply (copy_step m K c (di 0) (dst := vA) fullShare (argA m c) (by rfl) (tgt_in 0 c)
    (by rw [landed_in0]; unfold inA; exact .rfl)) $$ [HA HvA HtA]
  · isplitr; · iexact HR
    isplitl [HA]; · iexact HA
    isplitl [HvA] <;> iassumption
  iintro HdA
  iapply (copyIn_step m K c 0) $$ [H0]
  · isplitr; · iexact HR
    iexact H0
  iintro H0
  iapply (copyIn_step m K c 1) $$ [H1]
  · isplitr; · iexact HR
    iexact H1
  iintro H1
  iapply (copyIn_step m K c 2) $$ [H2]
  · isplitr; · iexact HR
    iexact H2
  iintro H2
  iapply (copyIn_step m K c 3) $$ [H3]
  · isplitr; · iexact HR
    iexact H3
  iintro H3
  unfold owesAny
  icases HO with ⟨%W, HO⟩
  iapply (Rounds.wp_signal 𝒱₀ ER (ringRd m) (c : Thread nD τ) none (dst := (prv c : Thread nD τ)) (κ := K (prv c, none)) (r := 0)
      (d := true) (k' := 1) (by rw [duties_bar]; exact Finset.mem_univ _) rfl () (O₁ c) rfl) $$ [HO HtL HfR]
  · isplitr; · iapply (records_inv m K (prv c, none)); iexact HR
    isplitl [HO]; · iexact HO
    isplitl [HtL]; · iexact HtL
    isplitl [HfR]; · iapply (Entails.of_eq (payload_true m (prv c)).symm); iexact HfR
    iapply (records_reached m K (prv c, none)); iexact HR
  iintro HO
  iapply (Rounds.wp_signal 𝒱₀ ER (ringRd m) (c : Thread nD τ) none (dst := (nxt c : Thread nD τ)) (κ := K (nxt c, none)) (r := 0)
      (d := false) (k' := 1) (by rw [duties_bar]; exact Finset.mem_univ _) rfl () (owed c sendOrder) rfl) $$ [HO HtR HfL]
  · isplitr; · iapply (records_inv m K (nxt c, none)); iexact HR
    isplitl [HO]; · iexact HO
    isplitl [HtR]; · iexact HtR
    isplitl [HfL]; · iapply (Entails.of_eq (payload_false m (nxt c)).symm); iexact HfL
    iapply (records_reached m K (nxt c, none)); iexact HR
  iintro HO
  iapply (Rounds.wp_wait_rest_token 𝒱₀ ER (ringRd m) (c : Thread nD τ) none (κ := K (c, none))
      (wpE_semWait_eq 𝒱₀ (c : Thread nD τ) none Set.univ) (Set.mem_univ _) () (O := owed c sendOrder) (W := W) (R := 0) (m := 0) (T := ∅)
      (by rw [expect_bar]; decide)) $$ [HcB HO HpB]
  · isplitr; · iapply (records_inv m K (c, none)); iexact HR
    isplitl [HcB]; · iexact HcB
    isplitl [HO]; · iexact HO
    isplitr
    · iapply (mayWait_owed c (.reg barS) sendOrder (by decide)); iapply (records_levels m K); iexact HR
    iexact HpB
  iintro ⟨HO, HpB, -, Hpay⟩
  ihave Hf := (Entails.of_eq (rest_bar m c)) $$ Hpay
  icases Hf with ⟨HfL, HfR⟩
  imod (Rounds.cell_close ER (ringRd m) (Set.mem_univ (K (c, none))) (fun h => h) (R := 0 + 1) (duties_later m (barCell c))) $$ [HpB] with HzB
  · isplitr; · iapply (records_inv m K (c, none)); iexact HR
    iexact HpB
  iapply (wait_step m K c (di 0) sendOrder (by rfl) (by decide)) $$ [HdA HO HpA]
  · isplitr; · iexact HR
    isplitl [HdA]; · iexact HdA
    isplitl [HO]; · unfold owesAny; iexists _; iexact HO
    iexact HpA
  iintro ⟨HO, HzA, Hin⟩
  ihave Hin := (Entails.of_eq (landed_in0 m c)) $$ Hin
  unfold inA
  icases Hin with ⟨HvA, HA⟩
  iapply (round_step m c) $$ [HvA HH]
  · isplitl [HvA] <;> iassumption
  iintro ⟨HvA, HH⟩
  iapply Hk
  isplitl [HO]; · iexact HO
  isplitl [HH]; · iexact HH
  isplitl [HzA]; · iexact HzA
  isplitl [HvA HA]; · isplitl [HvA] <;> iassumption
  isplitl [H0 H1 H2 H3]
  · isplitl [H0]; · iexact H0
    isplitl [H1]; · iexact H1
    isplitl [H2] <;> iassumption
  isplitl [HzB]; · iexact HzB
  isplitl [HfL] <;> iassumption

end Run

end Cert.KernelIdeal.Ring

end
-- ==== Proof.Body.lean ====
/-
The body's run on a device: the start, the products of the four column blocks, and the rows of stages
after them; what it takes and what it leaves.
-/
module

public import proofs.«01_k».proof.Proof.Start

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem thirteen (P : Fin 13 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12) := by
  rw [bigSep_univ_eq_bigSepL [0, 1, 2, 3, 4, 5, 6, 7, 8, 9, 10, 11, 12] (by decide) (by decide)]
  simp only [bigSepL_cons_cons, bigSepL_singleton]
  rfl

section Column
variable (c : Dev nD) (h : Fin 4)

/-- What a device holds for a column block at the start: its own positions, the tokens of the transfers it will
    start, the credits of the six transfers it will receive, and its own slots and piece; -/
def colPre : sProp 𝕄 :=
  iprop(pos c (di h.succ) ∗ (bigSep Finset.univ fun j : Fin 13 => pos c (kd j h)) ∗ (bigSep Finset.univ fun j : Fin 13 => tok c (kd j h))
    ∗ (due c (kd 1 h) ∗ due c (kd 3 h) ∗ due c (kd 5 h) ∗ due c (kd 7 h) ∗ due c (kd 9 h) ∗ due c (kd 11 h))
    ∗ (anyS c xDf h ∗ anyS c xDi h ∗ anyS c xCo h ∗ anyS c vG h) ∗ anyP c c h)
/-- the seven buffers' slots, and the four pieces of the result, each finished; -/
def colMem : sProp 𝕄 :=
  iprop((anyS c xDf h ∗ anyS c yDf h ∗ anyS c xDi h ∗ anyS c yDi h ∗ anyS c xCo h ∗ anyS c yCo h ∗ anyS c vG h)
    ∗ bigSep Finset.univ fun q : Fin 4 => ownsTc c (piece q h) fullShare (sq (done m q h)))
/-- and at the end: every cell at zero, the columns back, the memory. -/
def colPost : sProp 𝕄 :=
  iprop((zero c (di h.succ) ∗ bigSep Finset.univ fun j : Fin 13 => zero c (kd j h)) ∗ inB m c h ∗ colMem m c h)

/-- What a column block's stages take, once the neighbours' places came. -/
def stagesPre : sProp 𝕄 :=
  iprop(chunkPre c h ∗ combPre c h ∗ agPre c h ∗ fwdPre c h ∗ latePre c h ∗ pos c (kd 12 h) ∗ drainPos c h)

theorem deal_column :
    iprop(colPre (F := F) c h ∗ due c (di h.succ) ∗ (anyS (prv c) yDf h ∗ anyS (prv c) yCo h ∗ anyP (prv c) c h)
        ∗ (anyS (nxt c) yDi h ∗ anyP (nxt c) c h ∗ anyP (nxt c) (prv c) h))
      ⊢ stagesPre c h := by
  unfold colPre stagesPre chunkPre combPre agPre fwdPre latePre drainPos
  rw [thirteen, thirteen]
  iintro ⟨⟨Hpi, ⟨P0, P1, P2, P3, P4, P5, P6, P7, P8, P9, P10, P11, P12⟩, ⟨T0, T1, T2, T3, T4, T5, T6, T7, T8, T9, T10, T11, T12⟩,
    ⟨D1, D3, D5, D7, D9, D11⟩, ⟨Sf, Sd, Sc, Sg⟩, Po⟩, Di, ⟨L1, L2, L3⟩, ⟨R1, R2, R3⟩⟩
  isplitl [Di Hpi Sf L1 Sd R1 T0 T1 T2 T3]
  · iframe
  isplitl [D1 P1 Sc L2 T4 T5]
  · iframe
  isplitl [D5 P5 D3 P3 Sg Po R2 L3 T12 T6 T7 T8 T9]
  · iframe
  isplitl [D7 P7 R3 T10 T11]
  · iframe
  isplitl [D9 P9 D11 P11]
  · iframe
  isplitl [P12]
  · iexact P12
  iframe

/-- What the stages up to the passing on leave, apart from what the last waits take. -/
def midPost : sProp 𝕄 :=
  iprop((zero c (di h.succ) ∗ zero c (kd 1 h) ∗ zero c (kd 3 h) ∗ zero c (kd 5 h) ∗ zero c (kd 7 h)) ∗ inB m c h
    ∗ handed m c h 1 ∗ handed m c h 3 ∗ handed m c h 5)

theorem deal_waits :
    iprop(chunkPost m c h ∗ combPost m c h ∗ agPost m c h ∗ fwdPost c h ∗ pos c (kd 12 h) ∗ drainPos c h)
      ⊢ iprop(midPost m c h ∗ (due c (kd 12 h) ∗ pos c (kd 12 h)) ∗ (drainDue c h ∗ drainPos c h)) := by
  unfold chunkPost combPost agPost fwdPost midPost drainDue
  iintro ⟨⟨Z, I, D0, D2⟩, ⟨Z1, H1, D4⟩, ⟨Z5, Z3, H5, H3, D12, D6, D8⟩, ⟨Z7, D10⟩, P12, PD⟩
  isplitl [Z Z1 Z3 Z5 Z7 I H1 H3 H5]
  · iframe
  isplitl [D12 P12]
  · iframe
  iframe

/-- A finished piece's slot from the three shares of it, at some contents. -/
theorem slot_back :
    iprop(handed m c h 6 ∗ handed m c h 8 ∗ ownsTc c (slot vG h) qOwn (sq (done m c h))) ⊢ anyS c vG h := by
  rw [handed_6, handed_8]
  unfold anyS
  iintro ⟨HR, HL, HO⟩
  iexists _
  iapply (owns_halves (c : Thread nD τ) (slot vG h) fullShare (sq (done m c h))).2
  isplitl [HO]; · iexact HO
  iapply (owns_halves (c : Thread nD τ) (slot vG h) (fullShare : PosShare TreeShare).right (sq (done m c h))).2
  isplitl [HR] <;> iassumption

omit [FloatOps F] in
theorem anyS_of (M : Memref sig .tc .vmem S4x256x256 .bf16) (X : S256x256.Idx → Elt F .bf16) :
    ownsTc c (slot M h) fullShare X ⊢ anyS c M h := by unfold anyS; iintro H; iexists X; iexact H

omit [FloatOps F] in
/-- The four devices, from `c` on: itself, its neighbours, the one across. -/
theorem around (P : Dev nD → sProp 𝕄) : bigSep Finset.univ P = iprop(P c ∗ P (nxt c) ∗ P (prv c) ∗ P (opp c)) := by
  rw [bigSep_univ_eq_bigSepL [c, nxt c, prv c, opp c] (by revert c; decide) (by revert c; decide)]
  simp only [bigSepL_cons_cons, bigSepL_singleton]
  rfl

theorem gather_column :
    iprop(midPost m c h ∗ latePost m c h ∗ ownPost m c h ∗ drainPost m c h) ⊢ colPost m c h := by
  unfold midPost latePost ownPost drainPost colPost colMem
  rw [thirteen, show (bigSep Finset.univ fun q : Fin 4 => (ownsTc c (piece q h) fullShare (sq (done m q h)) : sProp 𝕄)) = _ from around c _]
  rw [handed_1, handed_3, handed_5, handed_9, handed_11, handed_12, handed_0, handed_2, handed_4, handed_10]
  iintro ⟨⟨⟨Z, Z1, Z3, Z5, Z7⟩, I, H1, H3, H5⟩, ⟨Z9, H9, Z11, H11⟩, ⟨Z12, H12, HgO⟩,
    ⟨Z0, Z2, Z4, Z6, Z8, Z10⟩, H0, H2, H4, H6, H8, H10⟩
  isplitl [Z Z0 Z1 Z2 Z3 Z4 Z5 Z6 Z7 Z8 Z9 Z10 Z11 Z12]
  · isplitl [Z]; · iexact Z
    iframe
  isplitl [I]; · iexact I
  isplitl [H0 H1 H2 H3 H4 H5 H6 H8 HgO]
  · isplitl [H0]; · iapply (anyS_of c h xDf _); iexact H0
    isplitl [H1]; · iapply (anyS_of c h yDf _); iexact H1
    isplitl [H2]; · iapply (anyS_of c h xDi _); iexact H2
    isplitl [H3]; · iapply (anyS_of c h yDi _); iexact H3
    isplitl [H4]; · iapply (anyS_of c h xCo _); iexact H4
    isplitl [H5]; · iapply (anyS_of c h yCo _); iexact H5
    iapply (slot_back m c h)
    isplitl [H6]; · iexact H6
    isplitl [H8] <;> iassumption
  isplitl [H12]; · iexact H12
  isplitl [H9]; · iexact H9
  isplitl [H10] <;> iassumption

end Column

section Run
variable (K : Dev nD × Option (DmaSem sig) → ℕ) (c : Dev nD)

/-- The products of a column block, at the computed places. -/
theorem chunkD_run (h : Fin 4) (k : FVec F S256x256 .f32 → FVec F S256x256 .f32 → Pg F) {Q : PUnit → sProp 𝕄} :
    iprop(records m K ∗ ownsTc c vH fullShare (half m c) ∗ left c (2 * h.val) ∗ chunkPre c h)
      ⊢ iprop(((ownsTc c vH fullShare (half m c) ∗ left c (2 * (h.val + 1)) ∗ chunkPost m c h) -∗ WP c (k (forLeft m c h) (forSelf m c h)) Q)
          -∗ WP c (chunkD c h (dev_dflow c h) (dev_direct c h) k) Q) := by
  have hl : sendOrder.drop (2 * h.val) = kd 1 h :: kd 3 h :: sendOrder.drop (2 * (h.val + 1)) := by revert h; decide
  have hlv : ∀ s' ∈ kd 1 h :: kd 3 h :: sendOrder.drop (2 * (h.val + 1)), level (.dma (di h.succ)) < level (.dma s') := by revert h; decide
  dsimp only [left]
  rw [hl]
  exact chunk_stage m K c h (dev_dflow_eq c h) (dev_direct_eq c h) (off_rows c).1 (off_rows c).2.1 (off_rows c).2.2.1 (off_rows c).2.2.2 _ hlv

/-- The rows of stages after the products. -/
theorem tail_run {Q : PUnit → sProp 𝕄} :
    iprop(records m K ∗ left c 8
        ∗ bigSep Finset.univ (combPre c) ∗ bigSep Finset.univ (agPre c) ∗ bigSep Finset.univ (fwdPre c) ∗ bigSep Finset.univ (latePre c)
        ∗ bigSep Finset.univ (chunkPost m c) ∗ bigSep Finset.univ (fun h => pos c (kd 12 h)) ∗ bigSep Finset.univ (drainPos c))
      ⊢ iprop(((owesAny c 0 ∗ bigSep Finset.univ (colPost m c)) -∗ Q ⟨⟩)
          -∗ WP c (tailP c (forLeft m c 0) (forSelf m c 0) (forLeft m c 1) (forSelf m c 1) (forLeft m c 2) (forSelf m c 2) (forLeft m c 3) (forSelf m c 3)) Q) := by
  unfold tailP
  iintro ⟨#HR, HO, Hc, Ha, Hf, Hl, Hk, Hp, Hd⟩ HQ
  iapply (combs_run m K c _) $$ [HO Hc]
  · isplitr; · iexact HR
    isplitl [HO] <;> iassumption
  iintro ⟨HO, Hc⟩
  iapply (ags_run m K c _) $$ [HO Ha]
  · isplitr; · iexact HR
    isplitl [HO] <;> iassumption
  iintro ⟨HO, Ha⟩
  iapply (fwds_run m K c _) $$ [HO Hf]
  · isplitr; · iexact HR
    isplitl [HO] <;> iassumption
  iintro ⟨HO, Hf⟩
  ihave H := (by
      simp only [← bigSep_sep']
      exact bigSep_mono fun h _ => deal_waits m c h
    : iprop(bigSep Finset.univ (chunkPost m c) ∗ bigSep Finset.univ (combPost m c) ∗ bigSep Finset.univ (agPost m c)
        ∗ bigSep Finset.univ (fwdPost c) ∗ bigSep Finset.univ (fun h => pos c (kd 12 h)) ∗ bigSep Finset.univ (drainPos c))
      ⊢ iprop(bigSep Finset.univ (midPost m c) ∗ bigSep Finset.univ (fun h => iprop(due c (kd 12 h) ∗ pos c (kd 12 h)))
        ∗ bigSep Finset.univ (fun h => iprop(drainDue c h ∗ drainPos c h)))) $$ [Hk Hc Ha Hf Hp Hd]
  · isplitl [Hk]; · iexact Hk
    isplitl [Hc]; · iexact Hc
    isplitl [Ha]; · iexact Ha
    isplitl [Hf]; · iexact Hf
    isplitl [Hp] <;> iassumption
  icases H with ⟨Hm, Ho, Hd⟩
  iapply (lates_run m K c (o1 := fun h => match h with | 0 => k0_off12 c 1#32 | 1 => k0_off13 c 1#32 | 2 => k0_off14 c 1#32 | 3 => k0_off15 c 1#32)
    (o2 := fun h => match h with | 0 => k0_off12 c 2#32 | 1 => k0_off13 c 2#32 | 2 => k0_off14 c 2#32 | 3 => k0_off15 c 2#32)
    (i1 := fun h => match h with | 0 => Facts₀.k0_off12_inb c 0 | 1 => Facts₀.k0_off13_inb c 0 | 2 => Facts₀.k0_off14_inb c 0 | 3 => Facts₀.k0_off15_inb c 0)
    (i2 := fun h => match h with | 0 => Facts₀.k0_off12_inb c 1 | 1 => Facts₀.k0_off13_inb c 1 | 2 => Facts₀.k0_off14_inb c 1 | 3 => Facts₀.k0_off15_inb c 1)
    (h1 := fun h => match h with
      | 0 => words_pieceAt (Facts₀.k0_off12_wordsbf16 c 0) | 1 => words_pieceAt (Facts₀.k0_off13_wordsbf16 c 0)
      | 2 => words_pieceAt (Facts₀.k0_off14_wordsbf16 c 0) | 3 => words_pieceAt (Facts₀.k0_off15_wordsbf16 c 0))
    (h2 := fun h => match h with
      | 0 => words_pieceAt (Facts₀.k0_off12_wordsbf16 c 1) | 1 => words_pieceAt (Facts₀.k0_off13_wordsbf16 c 1)
      | 2 => words_pieceAt (Facts₀.k0_off14_wordsbf16 c 1) | 3 => words_pieceAt (Facts₀.k0_off15_wordsbf16 c 1)) _) $$ [HO Hl]
  · isplitr; · iexact HR
    isplitl [HO] <;> iassumption
  iintro ⟨HO, Hl⟩
  iapply (owns_run m K c _) $$ [HO Ho]
  · isplitr; · iexact HR
    isplitl [HO] <;> iassumption
  iintro ⟨HO, Ho⟩
  iapply (drains_run m K c _) $$ [HO Hd]
  · isplitr; · iexact HR
    isplitl [HO] <;> iassumption
  iintro ⟨HO, Hd⟩
  unfold WP; rw [wp_ret]; imodintro
  iapply HQ
  isplitl [HO]; · iexact HO
  iapply (by
      simp only [← bigSep_sep']
      exact bigSep_mono fun h _ => gather_column m c h
    : iprop(bigSep Finset.univ (midPost m c) ∗ bigSep Finset.univ (latePost m c) ∗ bigSep Finset.univ (ownPost m c) ∗ bigSep Finset.univ (drainPost m c))
      ⊢ bigSep Finset.univ (colPost m c))
  isplitl [Hm]; · iexact Hm
  isplitl [Hl]; · iexact Hl
  isplitl [Ho] <;> iassumption

/-- What the body takes and what it leaves. -/
def bodyIn : sProp 𝕄 := iprop(startPre m c ∗ bigSep Finset.univ (colPre c))
def bodyOut : sProp 𝕄 :=
  iprop(ownsTc c vH fullShare (half m c) ∗ zero c (di 0) ∗ inA m c ∗ semVal (barCell c) 0 ∗ bigSep Finset.univ (colPost m c))

theorem body_run {Q : PUnit → sProp 𝕄} :
    iprop(records m K ∗ owesAny c (O₀ c) ∗ bodyIn m c)
      ⊢ iprop(((owesAny c 0 ∗ bodyOut m c) -∗ Q ⟨⟩) -∗ WP c (bodyP c) Q) := by
  unfold bodyIn bodyOut bodyP
  iintro ⟨#HR, HO, Hs, Hc⟩ HQ
  iapply (start_stage m K c (dev_start c).1 (dev_start c).2 _) $$ [HO Hs]
  · isplitr; · iexact HR
    isplitl [HO] <;> iassumption
  unfold startPost
  iintro ⟨HO, HH, HzA, HA, Hdi, HzB, HfL, HfR⟩
  unfold fromLeft fromRight
  ihave H := (by
      simp only [← bigSep_sep']
      exact bigSep_mono fun h _ => deal_column c h
    : iprop(bigSep Finset.univ (colPre (F := F) c) ∗ (bigSep Finset.univ fun h : Fin 4 => due c (di h.succ))
        ∗ (bigSep Finset.univ fun h : Fin 4 => iprop(anyS (prv c) yDf h ∗ anyS (prv c) yCo h ∗ anyP (prv c) c h))
        ∗ (bigSep Finset.univ fun h : Fin 4 => iprop(anyS (nxt c) yDi h ∗ anyP (nxt c) c h ∗ anyP (nxt c) (prv c) h)))
      ⊢ iprop(bigSep Finset.univ (fun h => chunkPre c h) ∗ bigSep Finset.univ (fun h => combPre c h) ∗ bigSep Finset.univ (fun h => agPre c h)
        ∗ bigSep Finset.univ (fun h => fwdPre c h) ∗ bigSep Finset.univ (fun h => latePre c h)
        ∗ bigSep Finset.univ (fun h => pos c (kd 12 h)) ∗ bigSep Finset.univ (fun h => drainPos c h))) $$ [Hc Hdi HfL HfR]
  · isplitl [Hc]; · iexact Hc
    isplitl [Hdi]; · iexact Hdi
    isplitl [HfL] <;> iassumption
  icases H with ⟨Hk, Hc, Ha, Hf, Hl, Hp, Hd⟩
  ihave Hk := (Entails.of_eq (four (fun h => chunkPre (F := F) c h))) $$ Hk
  icases Hk with ⟨H0, H1, H2, H3⟩
  iapply (chunkD_run m K c 0 _) $$ [HH HO H0]
  · isplitr; · iexact HR
    isplitl [HH]; · iexact HH
    isplitl [HO] <;> iassumption
  iintro ⟨HH, HO, H0⟩
  iapply (chunkD_run m K c 1 _) $$ [HH HO H1]
  · isplitr; · iexact HR
    isplitl [HH]; · iexact HH
    isplitl [HO] <;> iassumption
  iintro ⟨HH, HO, H1⟩
  iapply (chunkD_run m K c 2 _) $$ [HH HO H2]
  · isplitr; · iexact HR
    isplitl [HH]; · iexact HH
    isplitl [HO] <;> iassumption
  iintro ⟨HH, HO, H2⟩
  iapply (chunkD_run m K c 3 _) $$ [HH HO H3]
  · isplitr; · iexact HR
    isplitl [HH]; · iexact HH
    isplitl [HO] <;> iassumption
  iintro ⟨HH, HO, H3⟩
  iapply (tail_run m K c) $$ [HO Hc Ha Hf Hl H0 H1 H2 H3 Hp Hd]
  · isplitr; · iexact HR
    isplitl [HO]; · iexact HO
    isplitl [Hc]; · iexact Hc
    isplitl [Ha]; · iexact Ha
    isplitl [Hf]; · iexact Hf
    isplitl [Hl]; · iexact Hl
    isplitl [H0 H1 H2 H3]
    · iapply (Entails.of_eq (four (chunkPost m c)).symm)
      isplitl [H0]; · iexact H0
      isplitl [H1]; · iexact H1
      isplitl [H2] <;> iassumption
    isplitl [Hp] <;> iassumption
  iintro ⟨HO, Hc⟩
  iapply HQ
  isplitl [HO]; · iexact HO
  isplitl [HH]; · iexact HH
  isplitl [HzA]; · iexact HzA
  isplitl [HA]; · iexact HA
  isplitl [HzB] <;> iassumption

end Run

end Cert.KernelIdeal.Ring

end
-- ==== Proof.Memory.lean ====
/-
What a device's memory looks like to its body. Each exchange buffer is dealt into its four slots, the
second argument into its four column blocks and the result into its sixteen pieces; at the end each is
whole again, the result at the finished pieces of every device.
-/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- A family of two indices may be gone through either way. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

section Memory
variable (c : Dev nD)

/-- A buffer at some contents, as its memref sees it. -/
abbrev some_of {sp : Space} {sh : Shape} {e : EltTy} (M : Memref sig .tc sp sh e) : sProp 𝕄 := iprop(∃ X, ownsTc c M fullShare X)

theorem slots_of (M : Memref sig .tc .vmem S4x256x256 .bf16) :
    (some_of c M : sProp 𝕄) ⊢ bigSep Finset.univ (anyS c M) := by
  iintro ⟨%X, H⟩
  iapply ((owns_rects (c : Thread nD τ) M fullShare slotR (fun _ _ => rfl) slot_disjoint slot_cover X).trans
    (bigSep_mono fun h _ => (Entails.of_eq (owns_slot c M h fullShare (fun j => X ((slotR h).emb j))).symm).trans (anyS_of c h M _)))
  iexact H

theorem slot_some (M : Memref sig .tc .vmem S4x256x256 .bf16) (h : Fin 4) :
    (anyS c M h : sProp 𝕄) ⊢ ownsSat (c : Thread nD τ) (M.slice (slotR h) (fun _ => rfl)) fullShare (fun _ => True) := by
  unfold anyS
  iintro ⟨%X, H⟩
  obtain ⟨v, rfl⟩ := exists_sq X
  iapply (ownsSat_true (c : Thread nD τ) (slotM M h) fullShare).2
  iexists v
  iapply (Entails.of_eq (owns_slot c M h fullShare v))
  iexact H

theorem slots_join (M : Memref sig .tc .vmem S4x256x256 .bf16) :
    bigSep Finset.univ (anyS c M) ⊢ (some_of c M : sProp 𝕄) :=
  ((bigSep_mono fun h _ => slot_some c M h).trans
    (ownsSat_of_rects (c : Thread nD τ) M fullShare slotR (fun _ _ => rfl) slot_disjoint slot_cover (Ψ := fun _ _ => True))).trans
    (ownsSat_any (c : Thread nD τ) M fullShare)

theorem chunks_of (X : Vec F S512x1024 .f32) :
    (ownsTc c mB fullShare X : sProp 𝕄)
      ⊢ bigSep Finset.univ fun h => ownsTc c (chunkA h) fullShare fun j => X ((chunkR h).emb j) :=
  owns_rects (c : Thread nD τ) mB fullShare chunkR (fun _ _ => rfl) chunk_disjoint chunk_cover X
theorem chunks_join (X : Vec F S512x1024 .f32) :
    (bigSep Finset.univ fun h => ownsTc c (chunkA h) fullShare fun j => X ((chunkR h).emb j))
      ⊢ (ownsTc c mB fullShare X : sProp 𝕄) :=
  owns_of_rects (c : Thread nD τ) mB fullShare chunkR (fun _ _ => rfl) chunk_disjoint chunk_cover X
theorem buffer_of :
    (some_of c vB : sProp 𝕄) ⊢ bigSep Finset.univ fun h => iprop(∃ Y, ownsTc c (chunkV h) fullShare Y) := by
  iintro ⟨%X, H⟩
  iapply ((owns_rects (c : Thread nD τ) vB fullShare chunkR (fun _ _ => rfl) chunk_disjoint chunk_cover X).trans
    (bigSep_mono fun h _ => exists_intro (Φ := fun Y => ownsTc c (chunkV h) fullShare Y) _))
  iexact H
theorem buffer_join (X : Vec F S512x1024 .f32) :
    (bigSep Finset.univ fun h => ownsTc c (chunkV h) fullShare fun j => X ((chunkR h).emb j))
      ⊢ (ownsTc c vB fullShare X : sProp 𝕄) :=
  owns_of_rects (c : Thread nD τ) vB fullShare chunkR (fun _ _ => rfl) chunk_disjoint chunk_cover X

theorem pieces_of :
    (some_of c mO : sProp 𝕄) ⊢ bigSep Finset.univ fun h : Fin 4 => iprop(anyP c c h ∗ anyP c (nxt c) h ∗ anyP c (prv c) h ∗ anyP c (opp c) h) := by
  rw [bigSep_congr (s := Finset.univ) (fun h _ => (around c (fun q => anyP (F := F) c q h)).symm), bigSep_swap,
    ← bigSep_univ_prod (fun p : Fin 4 × Fin 4 => anyP (F := F) c p.1 p.2)]
  iintro ⟨%X, H⟩
  iapply ((owns_rects (c : Thread nD τ) mO fullShare pieceR (fun _ _ => rfl) piece_disjoint piece_cover X).trans
    (bigSep_mono fun p _ => show _ ⊢ anyP c p.1 p.2 from by unfold anyP; exact exists_intro (Φ := fun Y => ownsTc c (piece p.1 p.2) fullShare Y) _))
  iexact H
theorem pieces_join :
    (bigSep Finset.univ fun h : Fin 4 => bigSep Finset.univ fun q : Fin 4 => ownsTc c (piece q h) fullShare (sq (done m q h)))
      ⊢ (ownsTc c mO fullShare (result m) : sProp 𝕄) := by
  rw [bigSep_swap, ← bigSep_univ_prod (fun p : Fin 4 × Fin 4 => (ownsTc c (piece p.1 p.2) fullShare (sq (done m p.1 p.2)) : sProp 𝕄)),
    bigSep_congr (s := Finset.univ) (fun (p : Fin 4 × Fin 4) _ => congrArg (fun X => (ownsTc c (piece p.1 p.2) fullShare X : sProp 𝕄)) (result_piece m p.1 p.2).symm)]
  exact owns_of_rects (c : Thread nD τ) mO fullShare pieceR (fun _ _ => rfl) piece_disjoint piece_cover (result m)

/-- What the body takes of the device's memory. -/
def homePre : sProp 𝕄 :=
  iprop(ownsTc c mA fullShare (argA m c) ∗ some_of c vA
    ∗ (bigSep Finset.univ fun h : Fin 4 => ownsTc c (chunkA h) fullShare (colsOf m c h))
    ∗ (bigSep Finset.univ fun h : Fin 4 => iprop(∃ Y, ownsTc c (chunkV h) fullShare Y))
    ∗ some_of c vH ∗ fromRight (prv c) ∗ fromLeft (nxt c)
    ∗ bigSep Finset.univ fun h : Fin 4 => iprop((anyS c xDf h ∗ anyS c xDi h ∗ anyS c xCo h ∗ anyS c vG h) ∗ anyP c c h))

/-- The three arrays, the first two at their contents at launch. -/
def arrays (X : Vec F S1024x1024 .bf16) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} X))

omit [FloatOps F] in
theorem scratch_eq : (Pipeline.scopedRest (Ix := Unit) (Name := ℕ) (U := UU) (Lvl := ℕ) (Val := Elt F) cfg0.spec c : sProp 𝕄)
    = iprop(some_of c vA ∗ some_of c vB ∗ some_of c vH ∗ some_of c xDf ∗ some_of c yDf ∗ some_of c xDi ∗ some_of c yDi
      ∗ some_of c xCo ∗ some_of c yCo ∗ some_of c vG) := by
  have w (b : Ref sig .tc) : iprop(∃ f : Buf (Elt F) ((c : Thread nD τ).loc b), ((c : Thread nD τ).loc b) ↦{fullShare} f)
      = (iprop(∃ X, ownsTc c (Memref.whole b) fullShare X) : sProp 𝕄) := by simp only [ownsTc, owns_whole]
  rw [scopedRest0_eq]
  simp only [w]
  rfl

omit [FloatOps F] in
theorem arrays_eq (X : Vec F S1024x1024 .bf16) : (arrays m c X : sProp 𝕄)
    = iprop(ownsTc c mA fullShare (argA m c) ∗ ownsTc c mB fullShare (argB m c) ∗ ownsTc c mO fullShare X) := by
  unfold arrays
  rw [← owns_whole (c : Thread nD τ) main_arg0, ← owns_whole (c : Thread nD τ) main_arg1, ← owns_whole (c : Thread nD τ) main_v1]
  rfl

theorem home_in :
    iprop(arrays m c (m ((c : Thread nD τ).loc main_v1)) ∗ Pipeline.scopedRest cfg0.spec c) ⊢ homePre m c := by
  rw [scratch_eq, arrays_eq]
  unfold homePre
  rw [fromRight_prv, fromLeft_nxt]
  iintro ⟨⟨HA, HB, HO⟩, SA, SB, SH, S3, S4, S5, S6, S7, S8, S9⟩
  ihave HP := (pieces_of c) $$ [HO]
  · iexists _; iexact HO
  ihave S3 := (slots_of c xDf) $$ S3
  ihave S4 := (slots_of c yDf) $$ S4
  ihave S5 := (slots_of c xDi) $$ S5
  ihave S6 := (slots_of c yDi) $$ S6
  ihave S7 := (slots_of c xCo) $$ S7
  ihave S8 := (slots_of c yCo) $$ S8
  ihave S9 := (slots_of c vG) $$ S9
  simp only [bigSep_sep']
  icases HP with ⟨P0, P1, P2, P3⟩
  isplitl [HA]; · iexact HA
  isplitl [SA]; · iexact SA
  isplitl [HB]; · iapply (chunks_of c (argB m c)); iexact HB
  isplitl [SB]; · iapply (buffer_of c); iexact SB
  isplitl [SH]; · iexact SH
  isplitl [S6 P2 P3]; · iframe
  isplitl [S4 S8 P1]; · iframe
  iframe

theorem home_out :
    iprop(ownsTc c vH fullShare (half m c) ∗ inA m c ∗ bigSep Finset.univ (inB m c) ∗ bigSep Finset.univ (colMem m c))
      ⊢ iprop(arrays m c (result m) ∗ Pipeline.scopedRest cfg0.spec c) := by
  rw [scratch_eq, arrays_eq]
  unfold inA inB colMem
  simp only [bigSep_sep']
  iintro ⟨HH, ⟨SA, HA⟩, ⟨SB, HB⟩, ⟨S3, S4, S5, S6, S7, S8, S9⟩, HP⟩
  isplitl [HA HB HP]
  · isplitl [HA]; · iexact HA
    isplitl [HB]; · iapply (chunks_join c (argB m c)); iexact HB
    iapply (pieces_join m c); iexact HP
  isplitl [SA]; · iexists _; iexact SA
  isplitl [SB]; · iexists _; iapply (buffer_join c (argB m c)); iexact SB
  isplitl [HH]; · iexists _; iexact HH
  isplitl [S3]; · iapply (slots_join c xDf); iexact S3
  isplitl [S4]; · iapply (slots_join c yDf); iexact S4
  isplitl [S5]; · iapply (slots_join c xDi); iexact S5
  isplitl [S6]; · iapply (slots_join c yDi); iexact S6
  isplitl [S7]; · iapply (slots_join c xCo); iexact S7
  isplitl [S8]; · iapply (slots_join c yCo); iexact S8
  iapply (slots_join c vG); iexact S9

end Memory

end Cert.KernelIdeal.Ring

end
-- ==== Proof.Ghost.lean ====
/-
What the launch gives each device besides memory: its cells in round 0, the rights to pay the cells it
pays, dealt out from the devices that own those cells, and the credits its waits spend.
-/
module

public import proofs.«01_k».proof.Proof.Memory

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores, listed -/

/-- The DMA semaphores: the five of the copies of the arguments, thirteen for each column block. -/
def semsE : Fin 5 ⊕ (Fin 4 × Fin 13) ≃ DmaSem sig :=
  Equiv.ofBijective (Sum.elim di fun p => kd p.2 p.1) <| (Fintype.bijective_iff_surjective_and_card _).2 ⟨fun s => by
    have hs : s.val < 57 := s.isLt
    by_cases h : s.val < 5
    · exact ⟨.inl ⟨s.val, h⟩, Fin.ext rfl⟩
    · refine ⟨.inr (⟨(s.val - 5) % 4, Nat.mod_lt _ (by decide)⟩, ⟨(s.val - 5) / 4, by omega⟩), Fin.ext ?_⟩
      show 5 + 4 * ((s.val - 5) / 4) + (s.val - 5) % 4 = s.val
      omega, by rw [Fintype.card_sum, Fintype.card_prod]; rfl⟩

omit [FloatOps F] in
theorem by_sem (P : DmaSem sig → sProp 𝕄) : bigSep Finset.univ P
    = iprop((P (di 0) ∗ bigSep Finset.univ fun h : Fin 4 => P (di h.succ))
      ∗ bigSep Finset.univ fun h : Fin 4 => bigSep Finset.univ fun j : Fin 13 => P (kd j h)) := by
  rw [bigSep_univ_equiv semsE, bigSep_univ_sum, bigSep_univ_prod,
    bigSep_univ_eq_bigSepL [0, 1, 2, 3, 4] (by decide) (by decide) (fun i : Fin 5 => P (semsE (.inl i))), four (fun h : Fin 4 => P (di h.succ))]
  rfl

omit [FloatOps F] in
theorem by_cell (P : Option (DmaSem sig) → sProp 𝕄) :
    bigSep Finset.univ P = iprop(P none ∗ bigSep Finset.univ fun s => P (some s)) := by
  rw [bigSep_univ_at P none, show (Finset.univ.erase none : Finset (Option (DmaSem sig))) = Finset.univ.map .some from by
    ext s; cases s <;> simp, bigSep_map]
  rfl

theorem kcell_injective : Function.Injective (kcell : Dev nD × Option (DmaSem sig) → GSem nD τ sig) := by
  rintro ⟨c, k⟩ ⟨c', k'⟩ h
  have h1 : c = c' := congrArg (fun g : GSem nD τ sig => g.1.1) h
  have h2 : csem k = csem k' := congrArg Prod.snd h
  subst h1
  cases k <;> cases k' <;> simp only [csem] at h2 <;> first | rfl | cases h2
  rfl
def ringCells : Finset (GSem nD τ sig) := Finset.univ.map ⟨kcell, kcell_injective⟩

/-- The rights to pay, by the device whose cell is paid: its barrier cell from either side, each of its DMA cells. -/
abbrev tokOf (cj : Dev nD × (Bool ⊕ DmaSem sig)) : GSem nD τ sig × ℕ × Bool := match cj.2 with
  | .inl b => (barCell cj.1, 0, b) | .inr s => (dcell cj.1 s, 0, false)
theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  have h2 := congrArg (fun x : GSem nD τ sig × ℕ × Bool => (x.1.2, x.2.2)) h
  subst h1
  cases j <;> cases j' <;> simp only [tokOf] at h2 <;> cases h2 <;> rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-! ## The rights to pay -/

/-- Those of device `c`'s own cells, -/
def ownToks (c : Dev nD) : sProp 𝕄 :=
  iprop((dutyTok ER (barCell c) 0 true ∗ dutyTok ER (barCell c) 0 false)
    ∗ bigSep Finset.univ fun s : DmaSem sig => dutyTok ER (dcell c s) 0 false)
/-- and those of the cells it pays. -/
def payToks (c : Dev nD) : sProp 𝕄 :=
  iprop((dutyTok ER (barCell (prv c)) 0 true ∗ dutyTok ER (barCell (nxt c)) 0 false)
    ∗ bigSep Finset.univ fun s : DmaSem sig => tok c s)

omit [FloatOps F] in
theorem deal_toks : (bigSep Finset.univ fun c : Dev nD => (ownToks c : sProp 𝕄)) = bigSep Finset.univ fun c : Dev nD => payToks c := by
  unfold ownToks payToks tok
  rw [bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    bigSep_swap (fun (c : Dev nD) (s : DmaSem sig) => (dutyTok ER (dcell c s) 0 false : sProp 𝕄)),
    bigSep_congr (s := Finset.univ) (fun (s : DmaSem sig) _ => bigSep_univ_equiv (tgt s) (fun c : Dev nD => (dutyTok ER (dcell c s) 0 false : sProp 𝕄))),
    bigSep_swap (fun (s : DmaSem sig) (c : Dev nD) => (dutyTok ER (dcell (tgt s c) s) 0 false : sProp 𝕄))]
  rfl

/-! ## The cells -/

/-- What the launch deals device `c`, -/
def G (c : Dev nD) : sProp 𝕄 :=
  iprop((bigSep Finset.univ fun k : Option (DmaSem sig) => roundState ER (ringRd m) (kcell (c, k)) 0)
    ∗ (bigSep Finset.univ fun k : Option (DmaSem sig) => (atPos ER (kcell (c, k)) 0 ∅ 0 : sProp 𝕄))
    ∗ (bigSep Finset.univ fun k : Option (DmaSem sig) => (reached ER (kcell (c, k)) 0 : sProp 𝕄)) ∗ ownToks c)

/-- what it holds once every cell has its invariant: the invariants of all the cells, its own positions and the
    rights to pay. -/
def cellsAll (K : Dev nD × Option (DmaSem sig) → ℕ) : sProp 𝕄 :=
  iprop((bigSep Finset.univ fun ck : Dev nD × Option (DmaSem sig) => (cellInv ER (ringRd m) (K ck) (kcell ck) : sProp 𝕄))
    ∗ (bigSep Finset.univ fun ck : Dev nD × Option (DmaSem sig) => (reached ER (kcell ck) 0 : sProp 𝕄)))
def linear (c : Dev nD) : sProp 𝕄 :=
  iprop((bigSep Finset.univ fun k : Option (DmaSem sig) => (atPos ER (kcell (c, k)) 0 ∅ 0 : sProp 𝕄)) ∗ payToks c)
def G' (c : Dev nD) : sProp 𝕄 := iprop(∃ K, cellsAll m K ∗ linear c)

instance cellsAll_persistent (K : Dev nD × Option (DmaSem sig) → ℕ) : BI.Persistent (cellsAll m K) := by
  unfold cellsAll; infer_instance

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Option (DmaSem sig) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by
      unfold ownToks
      rw [bigSep_univ_sum, bigSep_univ_eq_bigSepL [true, false] (by decide) (by decide) (fun b : Bool => _)]
      rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The kernel's own semaphores. -/
abbrev osem : DmaSem sig → SemLoc sig := .dma
theorem ownSemFacts : Pipeline.OwnSemFacts cfg0.spec osem := ⟨by decide, fun _ _ h => by cases h; rfl, fun _ w => w.elim0⟩

omit [FloatOps F] in
theorem ownSems_eq (c : Dev nD) :
    (Pipeline.ownSems0 (Ix := Unit) (Name := ℕ) (U := UU) (Lvl := ℕ) (Val := Elt F) (τ := τ) osem c : sProp 𝕄)
      = bigSep Finset.univ fun s : DmaSem sig => zero c s := rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Option (DmaSem sig) => (atPos ER (kcell (c, k)) 0 ∅ 0 : sProp 𝕄))
          ∗ (bigSep Finset.univ fun k : Option (DmaSem sig) => (reached ER (kcell (c, k)) 0 : sProp 𝕄)) ∗ ownToks c) := by
  unfold G
  rw [ownSems_eq, unscopedSems_eq]
  iintro ⟨Hos, Hus, Hst, Hrest⟩
  imod (show iprop((bigSep Finset.univ fun k : Option (DmaSem sig) => (semVal (kcell (c, k)) 0 : sProp 𝕄))
        ∗ bigSep Finset.univ fun k : Option (DmaSem sig) => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hos Hus Hst] with Hinv
  · isplitr [Hst]
    · iapply (Entails.of_eq (by_cell (fun k : Option (DmaSem sig) => (semVal (kcell (c, k)) 0 : sProp 𝕄))).symm)
      isplitl [Hus]; · iexact Hus
      iexact Hos
    · iexact Hst
  imodintro
  isplitl [Hinv] <;> iassumption

omit [FloatOps F] in
/-- A persistent assertion may be used at every index. -/
theorem with_persistent {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (ringRd m) κ (kcell (c, k))))
          ∗ (bigSep Finset.univ fun k : Option (DmaSem sig) => (atPos ER (kcell (c, k)) 0 ∅ 0 : sProp 𝕄))
          ∗ (bigSep Finset.univ fun k : Option (DmaSem sig) => (reached ER (kcell (c, k)) 0 : sProp 𝕄)) ∗ ownToks c) : sProp 𝕄)
      ⊢ bigSep Finset.univ (G' m) := by
  rw [bigSep_sep', bigSep_sep', bigSep_sep', deal_toks,
    ← bigSep_univ_prod (fun ck : Dev nD × Option (DmaSem sig) => iprop(∃ κ : ℕ, cellInv ER (ringRd m) κ (kcell ck))),
    ← bigSep_univ_prod (fun ck : Dev nD × Option (DmaSem sig) => (reached ER (kcell ck) 0 : sProp 𝕄))]
  iintro ⟨HI, Hat, #HR, Htok⟩
  ihave HK := (BI.bigSep_exists_pi Finset.univ (fun (ck : Dev nD × Option (DmaSem sig)) (κ : ℕ) => (cellInv ER (ringRd m) κ (kcell ck) : sProp 𝕄))) $$ HI
  icases HK with ⟨%K, #HI⟩
  iapply (with_persistent (R := cellsAll m K) (Φ := linear) fun c => show _ ⊢ G' m c from exists_intro (Φ := fun K => iprop(cellsAll m K ∗ linear c)) K)
  isplitr
  · unfold cellsAll; isplitr; · iexact HI
    iexact HR
  · unfold linear; simp only [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ## The credits -/

/-- The credits of a device's receive cells, in the order of the sends. -/
def duesOf (c : Dev nD) : List (DmaSem sig) → sProp 𝕄
  | [] => iprop(emp)
  | s :: l => iprop(duesOf c l ∗ cred (tallyAt (dcell c s) () N))

omit [FloatOps F] in
theorem dues_of (c : Dev nD) : ∀ l, (Pipeline.launchCred (fun d => owed d l) c : sProp 𝕄) ⊢ duesOf c l
  | [] => by
    show (Pipeline.launchCred (fun d => 0) c : sProp 𝕄) ⊢ _
    rw [Pipeline.launchCred_zero]; exact .rfl
  | s :: l => by
    show (Pipeline.launchCred (fun d => owed d l + tallyAt (dcell (tgt s d) s) () N) c : sProp 𝕄) ⊢ _
    rw [Pipeline.launchCred_add]
    exact BIClass.sep_mono (dues_of c l)
      (Pipeline.launchCred_tallyAt (.dma s) (tgt s) (tgt s).symm (tgt s).apply_symm_apply (tgt s).symm_apply_apply () N c)

/-- The credits device `c`'s waits spend: its barrier's two, and those of its receive cells. -/
def credits (c : Dev nD) : sProp 𝕄 :=
  iprop(cred (tallyAt (barCell c) () 2)
    ∗ bigSep Finset.univ fun h : Fin 4 => iprop(due c (kd 1 h) ∗ due c (kd 3 h) ∗ due c (kd 5 h) ∗ due c (kd 7 h) ∗ due c (kd 9 h) ∗ due c (kd 11 h)))

omit [FloatOps F] in
theorem credits_of (c : Dev nD) : (Pipeline.launchCred O₀ c : sProp 𝕄) ⊢ credits c := by
  have hO : O₀ = fun d => (owed d sendOrder + tallyAt (barCell (nxt d)) () 1) + tallyAt (barCell (prv d)) () 1 := rfl
  have h2 : (tallyAt (barCell c) () 2 : CellTallies nD τ sig Unit) = tallyAt (barCell c) () 1 + tallyAt (barCell c) () 1 := (tallyAt_add (barCell c) () 1 1).symm
  rw [hO, Pipeline.launchCred_add, Pipeline.launchCred_add]
  unfold credits due
  rw [h2, four]
  simp only [amt_kd]
  iintro ⟨⟨HS, HN⟩, HP⟩
  ihave HN := (Pipeline.launchCred_tallyAt (.reg barS) nxt prv nxt_prv prv_nxt () 1 c) $$ HN
  ihave HP := (Pipeline.launchCred_tallyAt (.reg barS) prv nxt prv_nxt nxt_prv () 1 c) $$ HP
  ihave HS := ((dues_of c sendOrder).trans (Entails.of_eq (by unfold sendOrder; simp only [duesOf]; rfl))) $$ HS
  icases HS with ⟨⟨⟨⟨⟨⟨⟨⟨⟨⟨⟨⟨⟨⟨⟨⟨⟨⟨⟨⟨⟨⟨⟨⟨-, F3⟩, F2⟩, F1⟩, F0⟩, L3⟩, R3⟩, L2⟩, R2⟩, L1⟩, R1⟩, L0⟩, R0⟩, C3⟩, C2⟩, C1⟩, C0⟩, D3⟩, X3⟩, D2⟩, X2⟩, D1⟩, X1⟩, D0⟩, X0⟩
  isplitl [HN HP]
  · iapply (cred_add _ _).2
    isplitl [HN] <;> iassumption
  isplitl [X0 D0 C0 R0 L0 F0]; · iframe
  isplitl [X1 D1 C1 R1 L1 F1]; · iframe
  isplitl [X2 D2 C2 R2 L2 F2]; · iframe
  iframe

/-! ## What the body takes and leaves -/

theorem body_in (c : Dev nD) : iprop(homePre m c ∗ linear c ∗ credits c) ⊢ bodyIn m c := by
  unfold homePre linear payToks credits bodyIn startPre colPre pos
  rw [by_cell, by_sem, by_sem]
  simp only [bigSep_sep']
  iintro ⟨⟨HA, SA, HB, SB, SH, HR, HL, ⟨S3, S5, S7, S9⟩, HO⟩, ⟨⟨PB, ⟨P0, Pi⟩, Pk⟩, ⟨TP, TN⟩, ⟨T0, Ti⟩, Tk⟩, CB, CC⟩
  isplitl [HA SA T0 P0 HB SB Ti SH TP TN CB PB HR HL]
  · isplitl [HA SA T0 P0]
    · isplitl [HA]; · iexact HA
      isplitl [SA]; · iexact SA
      isplitl [T0]; · iexact T0
      iexact P0
    isplitl [HB SB Ti]
    · isplitl [HB]; · iexact HB
      isplitl [SB]; · iexact SB
      iexact Ti
    isplitl [SH]; · iexact SH
    isplitl [TP]; · iexact TP
    isplitl [TN]; · iexact TN
    isplitl [CB]; · iexact CB
    isplitl [PB]; · iexact PB
    isplitl [HR] <;> iassumption
  isplitl [Pi]; · iexact Pi
  isplitl [Pk]; · iexact Pk
  isplitl [Tk]; · iexact Tk
  isplitl [CC]; · iexact CC
  isplitl [S3 S5 S7 S9]
  · isplitl [S3]; · iexact S3
    isplitl [S5]; · iexact S5
    isplitl [S7] <;> iassumption
  iexact HO

theorem body_out (c : Dev nD) : bodyOut m c
    ⊢ iprop((unscopedSems0 c ∗ arrays m c (result m))
      ∗ Pipeline.ownSems0 (Ix := Unit) (Name := ℕ) (U := UU) (Lvl := ℕ) (Val := Elt F) (τ := τ) osem c ∗ Pipeline.scopedRest cfg0.spec c) := by
  rw [ownSems_eq, unscopedSems_eq, by_sem]
  unfold bodyOut colPost
  simp only [bigSep_sep' (s := (Finset.univ : Finset (Fin 4)))]
  iintro ⟨HH, HzA, HA, HzB, ⟨Hzi, Hzk⟩, HB, HM⟩
  ihave H := (home_out m c) $$ [HH HA HB HM]
  · isplitl [HH]; · iexact HH
    isplitl [HA]; · iexact HA
    isplitl [HB]; · iexact HB
    unfold colMem; simp only [bigSep_sep']; iexact HM
  icases H with ⟨Harr, Hscr⟩
  isplitl [HzB Harr]
  · isplitl [HzB] <;> iassumption
  isplitl [HzA Hzi Hzk]
  · isplitl [HzA Hzi]
    · isplitl [HzA] <;> iassumption
    iexact Hzk
  iexact Hscr

end Cert.KernelIdeal.Ring

end
-- ==== Proof.Launch.lean ====
/-
The kernel's run on the four devices: every execution ends, with both arguments as they were, the result
at the finished pieces of every device, and every semaphore at zero.
-/
module

public import proofs.«01_k».proof.Proof.Ghost
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body on a device -/

/-- What device `c` holds when its body starts, the scratch buffers apart. -/
def start (c : Dev nD) : sProp 𝕄 :=
  iprop(∃ K, records m K ∗ linear c ∗ credits c ∗ arrays m c (m ((c : Thread nD τ).loc main_v1)))
/-- What is left of it at the end, the scratch buffers and the body's semaphores apart. -/
def finish (c : Dev nD) : sProp 𝕄 := iprop(unscopedSems0 c ∗ arrays m c (result m))

def before (c : Dev nD) : sProp 𝕄 := iprop(start m c ∗ Pipeline.scopedRest cfg0.spec c)
def after (c : Dev nD) : sProp 𝕄 :=
  iprop(finish m c ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => O₀ c
    | ⟨_ + 1, _⟩ => 0

theorem body_sound (c : Dev nD) :
    iprop(before m c ∗ owesAny c (O₀ c)) ⊢ WP c (bodyP c) (fun _ => iprop(after m c ∗ owesAny c 0)) := by
  unfold before start
  iintro ⟨⟨⟨%K, #HR, Hl, Hc, Ha⟩, Hs⟩, HO⟩
  iapply (body_run m K c) $$ [Hl Hc Ha Hs HO]
  · isplitr; · iexact HR
    isplitl [HO]; · iexact HO
    iapply (body_in m c)
    isplitl [Ha Hs]
    · iapply (home_in m c)
      isplitl [Ha] <;> iassumption
    isplitl [Hl] <;> iassumption
  iintro ⟨HO, HB⟩
  isplitl [HB]
  · unfold after finish
    iapply (body_out m c); iexact HB
  iexact HO

set_option maxRecDepth 8000 in
theorem body_obligation (c : Dev nD) : BodyObligation (dats m 0 c) (defs₀ (F := F)) 𝒱₀ () Set.univ := fun t => by
  have ht : t = t0_0 := fin_N0 t
  subst ht
  have hW (Φ : Fin cfg0.W → sProp 𝕄) : bigSep Finset.univ Φ = iprop(emp) := bigSep_univ_eq_bigSepL [] (by decide) (by decide) Φ
  rw [hW, hW]
  show iprop(before m c ∗ (dats m 0 c).owesAt () t0_0.castSucc ∗ emp)
    ⊢ WP c (bodyAt0 t0_0) (fun _ => iprop(after m c ∗ (dats m 0 c).owesAt () t0_0.succ ∗ emp))
  rw [body_eq]
  unfold WP
  rw [wp_deviceId]
  have hpost : iprop(after m c ∗ owesAny c 0) ⊢ iprop(after m c ∗ (dats m 0 c).owesAt () t0_0.succ ∗ emp) := by
    unfold owesAny Dat.owesAt Pipeline.owesWithin
    iintro ⟨HA, ⟨%W, HO⟩⟩
    isplitl [HA]; · iexact HA
    isplitl
    · iexists W
      isplitr
      · ipureintro; exact fun _ _ => Or.inl trivial
      iexact HO
    · iempintro
  refine BIBase.Entails.trans ?_ ((body_sound m c).trans (wp_mono _ _ _ fun _ => hpost))
  unfold owesAny Dat.owesAt Pipeline.owesWithin
  iintro ⟨HB, ⟨%W, %hW, HO⟩, -⟩
  isplitl [HB]; · iexact HB
  iexists W; iexact HO

theorem share_eq (c : Dev nD) (w : Fin cfg0.W) : (dats m 0 c).share w = fullShare := w.elim0

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start cellsAll records arrays
  iintro ⟨Ha, #Hlev, Hcr, -, ⟨%K, ⟨#HI, #Hr⟩, Hl⟩⟩
  ihave Hc := (credits_of (F := F) c) $$ Hcr
  imodintro
  isplitl
  · iexists K
    isplitr
    · isplitr; · iexact HI
      isplitr; · iexact Hr
      iexact Hlev
    isplitl [Hl]; · iexact Hl
    isplitl [Hc]; · iexact Hc
    iexact Ha
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before m c
  unfold before
  iintro ⟨Hs, -, Hr⟩
  isplitl [Hs] <;> iassumption

theorem waits (c : Dev nD) : (levAts L lv : sProp 𝕄) ⊢ Pipeline.cellsWaits cfgs (dats m) () 0 c :=
  Pipeline.cellsWaits_intro cfgs (dats m) () 0 c fun w _ _ => w.elim0

/-- What is read off a device's memory at the end. -/
def ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = result m

theorem finish_read (c : Dev nD) (s' : Phys nD τ sig (Elt F)) :
    iprop(finish m c ∗ emp ∗ SI s')
      ⊢ |={Set.univ}=> iprop(⌜ends m c s'.mem ∧ ∀ sm : SemLoc sig, sm.isScoped .tc = false → s'.mem.sem ((c.tc : Thread nD τ), sm) = 0⌝ ∗ SI s') := by
  unfold finish arrays
  iintro ⟨⟨Hu, H0, H1, H2⟩, -, HSI⟩
  icombine HSI H0 gives %h0
  icombine HSI H1 gives %h1
  icombine HSI H2 gives %h2
  imod (Pipeline.unscopedSems0_read (X := unscopedSems0 c) (c := c) fupd_intro s') $$ [Hu HSI] with ⟨%hz, HSI⟩
  · isplitl [Hu] <;> iassumption
  imodintro
  isplitr
  · ipureintro
    exact ⟨⟨Buf.eq_of_forall_mem_univ h0, Buf.eq_of_forall_mem_univ h1, Buf.eq_of_forall_mem_univ h2⟩, hz⟩
  · iexact HSI

set_option maxRecDepth 8000 in
/-- For any float values, from any memory with zero counters: every weakly fair execution of the four devices
    ends, both arguments as they were, the result at the finished pieces, every semaphore at zero. -/
theorem run_main : θ_run defs (onTc (τ := τ) (main (F := F))) ⟨m, fun _ => 0, ρ⟩
    (fun r => (∀ c, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := before_intro m) (hout := fun _ => .rfl)
    (QY := fun c s => ends m c s ∧ ∀ sm : SemLoc sig, sm.isScoped .tc = false → s.sem ((c.tc : Thread nD τ), sm) = 0)
    (hY := finish_read m)
    (hQ := fun _ h hs => ⟨fun c => (h c).2.2.1, sem_eq_zero hs fun c => (h c).2.2.2⟩)

end Cert.KernelIdeal.Ring

end
-- ==== Proof.Value.lean ====
/-
The value of the result over the extended reals: each entry is the four devices' shares of the sum over the
contracted axis added up, and the maximum of that with zero, which is what the reference computes of the
whole arguments.
-/
module

public import proofs.«01_k».proof.Proof.Launch
public import proofs.«01_k».proof.Proof.Gen.ReferenceIdeal.Run
public import Idealize.ShloMosaic.Lib.Layout
public import Idealize.ShloMosaic.Lib.Pointwise.Contract
public import Idealize.ShloMosaic.Lib.Pointwise.Sums
public import Idealize.ShloMosaic.PureOps.Ideal.Laws
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The sums -/

/-- The share of device `c` in the entry at row `r` and column `l` of the product: its 512 terms of the sum. -/
def share (a : S1024x512.Idx → EReal) (b : S512x1024.Idx → EReal) (r l : Fin 1024) : EReal :=
  ∑ k : Fin 512, a (ix2 r k) * b (ix2 k l)

/-- The four devices' shares of an entry, in any device's order of going round the ring. -/
theorem sum_round {M : Type} [AddCommMonoid M] (f : Dev nD → M) (q : Dev nD) :
    f q + (f (nxt q) + f (opp q)) + f (prv q) = ∑ c : Fin 4, f c := by
  rw [Fin.sum_univ_four]
  have h : q = 0 ∨ q = 1 ∨ q = 2 ∨ q = 3 := by revert q; decide
  rcases h with rfl | rfl | rfl | rfl
  · show f 0 + (f 1 + f 2) + f 3 = _; abel
  · show f 1 + (f 2 + f 3) + f 0 = _; abel
  · show f 2 + (f 3 + f 0) + f 1 = _; abel
  · show f 3 + (f 0 + f 1) + f 2 = _; abel

/-- Where place `i` of block `q` lies on an axis of 1024 cut into blocks of 256. -/
def rowAt (q : Fin 4) (i : Fin 256) : Fin 1024 := ⟨256 * q.val + i.val, by have := q.isLt; have := i.isLt; omega⟩

variable (m : (ℓ : Loc nD τ sig) → Buf (Elt Ideal) ℓ)

/-- A row block is the rows of the device's first argument: rounding changes nothing here. -/
theorem rowsOf_at (c q : Dev nD) (i : Fin 256) (k : Fin 512) :
    rowsOf (F := Ideal) m c q (ix2 i k) = argA m c (ix2 (rowAt q i) k) := by
  show half m c ((rowsR q).emb (ix2 i k)) = _
  show shapeCast S1024x512 (argA m c) _ ((rowsR q).emb (ix2 i k)) = _
  rw [shapeCast_self]
  refine congrArg (argA m c) (Shape.idx_ext₂ ?_ ?_)
  · show 256 * q.val + 1 * i.val = 256 * q.val + i.val; omega
  · show 0 + 1 * k.val = k.val; omega

/-- A column block is the columns of the device's second argument. -/
theorem colsOf_at (c : Dev nD) (h : Fin 4) (j : Fin 256) (k : Fin 512) :
    colsOf (F := Ideal) m c h (ix2 k j) = argB m c (ix2 k (rowAt h j)) := by
  refine congrArg (argB m c) (Shape.idx_ext₂ ?_ ?_)
  · show 0 + 1 * k.val = k.val; omega
  · show 256 * h.val + 1 * j.val = 256 * h.val + j.val; omega

/-- A product of row block `q` with column block `h` on device `c`, entry by entry. -/
theorem product_at (c q : Dev nD) (h : Fin 4) (j : S256x256.Idx) :
    matmul (F := Ideal) (φ₁ := .bf16) (φ₂ := .bf16) dot_S256x512_S512x256_S256x256_1_0_0_1_n_n none (rowsOf m c q) (k0_pay2 (colsOf m c h))
      (constant S256x256 .f32 0x00000000#32) j
      = share (argA m c) (argB m c) (rowAt q (j 0)) (rowAt h (j 1)) := by
  refine (Ideal.matmul_constant_zero_apply _ none _ _ j).trans ?_
  rw [DotDims.sum_contr₁ dot_S256x512_S512x256_S256x256_1_0_0_1_n_n (a := 1) rfl (K := 512) rfl]
  refine Finset.sum_congr rfl fun k _ => ?_
  have hl : dot_S256x512_S512x256_S256x256_1_0_0_1_n_n.lhsIdx j
      (dot_S256x512_S512x256_S256x256_1_0_0_1_n_n.contrIdx₁ (a := 1) rfl (K := 512) rfl k) = ix2 (j 0) k :=
    Shape.idx_ext₂ rfl rfl
  have hr : dot_S256x512_S512x256_S256x256_1_0_0_1_n_n.rhsIdx j
      (dot_S256x512_S512x256_S256x256_1_0_0_1_n_n.contrIdx₁ (a := 1) rfl (K := 512) rfl k) = ix2 k (j 1) :=
    Shape.idx_ext₂ rfl rfl
  rw [hl, hr]
  exact congrArg₂ (· * ·) (rowsOf_at m c q (j 0) k) (colsOf_at m c h (j 1) k)

/-! ## What each device sends, keeps and finishes -/

/-- What a device keeps to add for its left neighbour is its share of that neighbour's rows. -/
theorem forLeft_at (c : Dev nD) (h : Fin 4) (j : S256x256.Idx) :
    forLeft (F := Ideal) m c h j = share (argA m c) (argB m c) (rowAt (prv c) (j 0)) (rowAt h (j 1)) :=
  product_at m c (prv c) h j

/-- What it keeps for itself is its share of its own rows. -/
theorem forSelf_at (c : Dev nD) (h : Fin 4) (j : S256x256.Idx) :
    forSelf (F := Ideal) m c h j = share (argA m c) (argB m c) (rowAt c (j 0)) (rowAt h (j 1)) :=
  product_at m c c h j

/-- A value given a leading axis of size one and stripped of it again is itself. -/
theorem sq_shapeCast {α : Type} (w : S256x256.Idx → α) (h : S256x256.ShapeCasts S1x256x256) :
    sq (shapeCast S1x256x256 w h) = w :=
  shapeCast_shapeCast w h Facts₀.squeezes_S1x256x256_S256x256.numel_eq

/-- What it sends for the device across is its share of that device's rows. -/
theorem dflow_at (c : Dev nD) (h : Fin 4) (j : S256x256.Idx) :
    sq (dflow (F := Ideal) m c h) j = share (argA m c) (argB m c) (rowAt (opp c) (j 0)) (rowAt h (j 1)) := by
  unfold dflow k0_pay3
  rw [sq_shapeCast]
  exact product_at m c (opp c) h j

/-- What it sends to the right is its share of the right neighbour's rows. -/
theorem direct_at (c : Dev nD) (h : Fin 4) (j : S256x256.Idx) :
    sq (direct (F := Ideal) m c h) j = share (argA m c) (argB m c) (rowAt (nxt c) (j 0)) (rowAt h (j 1)) := by
  unfold direct k0_pay4
  rw [sq_shapeCast]
  exact product_at m c (nxt c) h j

/-- What it sends on to the left is its own share added to the one that arrived. -/
theorem comb_at (c : Dev nD) (h : Fin 4) (j : S256x256.Idx) :
    sq (comb (F := Ideal) m c h) j = forLeft (F := Ideal) m c h j + sq (dflow (F := Ideal) m (nxt c) h) j := by
  unfold comb k0_pay22
  rw [sq_shapeCast]
  rfl

/-- A finished piece is the device's own share and the two arrivals added up, not below zero. -/
theorem done_at (c : Dev nD) (h : Fin 4) (j : S256x256.Idx) :
    sq (done (F := Ideal) m c h) j
      = max (forSelf (F := Ideal) m c h j + sq (comb (F := Ideal) m (nxt c) h) j + sq (direct (F := Ideal) m (prv c) h) j)
          (Ideal.ofBits .f32 0x00000000#32) := by
  unfold done k0_pay27
  rw [sq_shapeCast]
  rfl

/-- A finished piece, entry by entry: the four devices' shares added up, and the maximum of that with zero. -/
theorem done_sum (c : Dev nD) (h : Fin 4) (j : S256x256.Idx) :
    sq (done (F := Ideal) m c h) j
      = max (∑ d : Fin 4, share (argA m d) (argB m d) (rowAt c (j 0)) (rowAt h (j 1))) (Ideal.ofBits .f32 0x00000000#32) := by
  rw [done_at, comb_at, forSelf_at, forLeft_at, dflow_at, direct_at, nxt_nxt, prv_nxt, opp_opp, nxt_prv]
  exact congrArg (max · _) (sum_round (fun d => share (argA m d) (argB m d) (rowAt c (j 0)) (rowAt h (j 1))) c)

/-! ## The whole result -/

/-- Every entry of the result lies in a piece, and is there the devices' shares added up, not below zero. -/
theorem result_at (i : S1024x1024.Idx) :
    result (F := Ideal) m i
      = max (∑ d : Fin 4, share (argA m d) (argB m d) (i 0) (i 1)) (Ideal.ofBits .f32 0x00000000#32) := by
  have hi : i ∈ (Finset.univ : Finset (Fin 4 × Fin 4)).biUnion (fun p => (pieceR p).set) := piece_cover ▸ Finset.mem_univ i
  obtain ⟨⟨q, h⟩, -, hp⟩ := Finset.mem_biUnion.mp hi
  rw [Rect.mem_set_unit] at hp
  have h0 : 256 * q.val ≤ (i 0).val ∧ (i 0).val < 256 * q.val + 256 := hp 0
  have h1 : 256 * h.val ≤ (i 1).val ∧ (i 1).val < 256 * h.val + 256 := hp 1
  let j : S256x256.Idx := ix2 ⟨(i 0).val - 256 * q.val, by omega⟩ ⟨(i 1).val - 256 * h.val, by omega⟩
  have e0 : rowAt q (j 0) = i 0 := Fin.ext (show 256 * q.val + ((i 0).val - 256 * q.val) = (i 0).val by omega)
  have e1 : rowAt h (j 1) = i 1 := Fin.ext (show 256 * h.val + ((i 1).val - 256 * h.val) = (i 1).val by omega)
  have he : (pieceR (q, h)).emb j = i := Shape.idx_ext₂
    (show 256 * q.val + 1 * ((i 0).val - 256 * q.val) = (i 0).val by omega)
    (show 256 * h.val + 1 * ((i 1).val - 256 * h.val) = (i 1).val by omega)
  have hres := congrFun (result_piece (F := Ideal) m q h) j
  rw [done_sum, e0, e1] at hres
  rw [← hres]; exact congrArg (result m) he.symm

/-! ## The reference's value -/

/-- The reference's result of the two whole arguments. -/
def wanted (a : Cert.ReferenceIdeal.S1024x2048.Idx → EReal) (b : Cert.ReferenceIdeal.S2048x1024.Idx → EReal) :
    Vec Ideal Cert.ReferenceIdeal.S1024x1024 .bf16 :=
  truncf .bf16 (maximumf (F := Ideal) (φ := .f32) (Host.dotGeneral (F := Ideal) (φ₁ := .f32) (φ₂ := .f32)
      Cert.ReferenceIdeal.dot_S1024x2048_S2048x1024_S1024x1024_1_0_0_1_n_n none a b)
    (broadcastInDim Cert.ReferenceIdeal.S1024x1024 ![] Cert.ReferenceIdeal.Gen.bcast_S_S1024x1024 (constant Cert.ReferenceIdeal.S_ .f32 0x00000000#32)))
    Cert.ReferenceIdeal.Gen.bitsLt_bf16_f32

/-- Where device `d`'s block of a cut axis of 2048 has its place `k`. -/
def placeAt (d : Fin 4) (k : Fin 512) : Fin 2048 := ⟨d.val * 512 + k.val, by have := d.isLt; have := k.isLt; omega⟩

/-- An entry of the reference's result, its sum over 2048 places cut into the four devices' 512. -/
theorem wanted_at (a : Cert.ReferenceIdeal.S1024x2048.Idx → EReal) (b : Cert.ReferenceIdeal.S2048x1024.Idx → EReal)
    (i : Cert.ReferenceIdeal.S1024x1024.Idx) :
    wanted a b i = max (∑ d : Fin 4, ∑ k : Fin 512, a (ix2 (i 0) (placeAt d k)) * b (ix2 (placeAt d k) (i 1)))
      (Ideal.ofBits .f32 0x00000000#32) := by
  refine congrArg (max · _) ((Ideal.dotGeneral_apply _ none _ a b i).trans ?_)
  rw [DotDims.sum_contr₁ Cert.ReferenceIdeal.dot_S1024x2048_S2048x1024_S1024x1024_1_0_0_1_n_n (a := 1) rfl (K := 2048) rfl,
    Fin.sum_univ_tiles 4 512 rfl]
  refine Finset.sum_congr rfl fun d _ => Finset.sum_congr rfl fun k _ => ?_
  exact congrArg₂ (· * ·) (congrArg a (Shape.idx_ext₂ rfl rfl)) (congrArg b (Shape.idx_ext₂ rfl rfl))

/-- From blocks of the same two arguments, the devices' result is the reference's. -/
theorem result_eq_wanted (a : Cert.ReferenceIdeal.S1024x2048.Idx → EReal) (b : Cert.ReferenceIdeal.S2048x1024.Idx → EReal)
    (hA : ∀ c : Dev nD, argA m c = Layout.block ⟨2, ![1024, 512]⟩ ⟨2, ![1024, 2048]⟩ 1 4 c a)
    (hB : ∀ c : Dev nD, argB m c = Layout.block ⟨2, ![512, 1024]⟩ ⟨2, ![2048, 1024]⟩ 0 4 c b) :
    result (F := Ideal) m = wanted a b := by
  funext i
  refine (result_at m i).trans (Eq.trans ?_ (wanted_at a b i).symm)
  refine congrArg (max · _) (Finset.sum_congr rfl fun d _ => Finset.sum_congr rfl fun k _ => ?_)
  rw [hA, hB]
  exact congrArg₂ (· * ·) (congrArg a (Shape.idx_ext₂ rfl rfl)) (congrArg b (Shape.idx_ext₂ rfl rfl))

end Cert.KernelIdeal.Ring

end
-- ==== Proof.lean ====
/-
The five claims: the three programs run to an end with their arguments unchanged and every semaphore at zero,
the kernel read over the extended reals is the kernel itself, and its result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run Cert.KernelIdeal.defs _ _).mono (fun _ h => ⟨fun c => ⟨(h.1 c).1, (h.1 c).2.1⟩, h.2⟩)
    (Cert.KernelIdeal.Ring.run_main (F := Bits) m g)

theorem frame_kernelIdeal : Cert.quiescent_KernelIdeal := fun m g _ =>
  (θ_run Cert.KernelIdeal.defs _ _).mono (fun _ h => ⟨fun c => ⟨(h.1 c).1, (h.1 c).2.1⟩, h.2⟩)
    (Cert.KernelIdeal.Ring.run_main (F := Ideal) m g)

theorem frame_referenceIdeal : Cert.quiescent_ReferenceIdeal := fun m g _ =>
  (θ_run Cert.ReferenceIdeal.defs _ _).mono
    (fun r h => ⟨fun c => (h c).2, sem_eq_zero_of_no_sems rfl r.2⟩)
    (Cert.ReferenceIdeal.Value.run (F := Ideal) m g)

/-- Both programs end at the reference's value of the whole arguments. -/
theorem same_result : Cert.algebraic_KernelIdeal_ReferenceIdeal := fun m g m' g' _ hblocks =>
  ⟨Cert.KernelIdeal.Ring.wanted (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨(h.1 c).2.2.trans (Cert.KernelIdeal.Ring.result_eq_wanted m _ _ (fun d => (hblocks d).1) (fun d => (hblocks d).2)),
        (h.1 c).1, (h.1 c).2.1⟩)
      (Cert.KernelIdeal.Ring.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
